-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x100000 : Shape := ⟨2, ![128, 100000]⟩
abbrev S100000x128 : Shape := ⟨2, ![100000, 128]⟩
abbrev S32x8x16 : Shape := ⟨3, ![32, 8, 16]⟩
abbrev S328x128 : Shape := ⟨2, ![328, 128]⟩
abbrev S8x16 : Shape := ⟨2, ![8, 16]⟩
abbrev S_ : Shape := ⟨0, ![]⟩
abbrev S16 : Shape := ⟨1, ![16]⟩
abbrev S1x16 : Shape := ⟨2, ![1, 16]⟩
abbrev S1x8x16 : Shape := ⟨3, ![1, 8, 16]⟩
abbrev S32x128 : Shape := ⟨2, ![32, 128]⟩
abbrev S128 : Shape := ⟨1, ![128]⟩
abbrev S1x128 : Shape := ⟨2, ![1, 128]⟩
abbrev S128x1 : Shape := ⟨2, ![128, 1]⟩

abbrev nBuf : Table → Nat
  | .hbm => 17
  | .local .scVector .vmem => 5
  | _ => 0

abbrev bufTy : (tb : Table) → Fin (nBuf tb) → BufTy
  | .hbm, ⟨0, _⟩ => ⟨S128x100000, .f32⟩
  | .hbm, ⟨1, _⟩ => ⟨S100000x128, .f32⟩
  | .hbm, ⟨2, _⟩ => ⟨S32x8x16, .f32⟩
  | .hbm, ⟨3, _⟩ => ⟨S32x8x16, .i32⟩
  | .hbm, ⟨4, _⟩ => ⟨S32x128, .f32⟩
  | .hbm, ⟨5, _⟩ => ⟨S32x128, .i32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S32x128, .f32⟩
  | .hbm, ⟨10, _⟩ => ⟨S32x128, .i1⟩
  | .hbm, ⟨11, _⟩ => ⟨S_, .i32⟩
  | .hbm, ⟨12, _⟩ => ⟨S32x128, .i32⟩
  | .hbm, ⟨13, _⟩ => ⟨S32x128, .i32⟩
  | .hbm, ⟨14, _⟩ => ⟨S_, .i32⟩
  | .hbm, ⟨15, _⟩ => ⟨S128, .i32⟩
  | .hbm, ⟨16, _⟩ => ⟨S128x1, .i32⟩
  | .local .scVector .vmem, ⟨0, _⟩ => ⟨S328x128, .f32⟩
  | .local .scVector .vmem, ⟨1, _⟩ => ⟨S328x128, .f32⟩
  | .local .scVector .vmem, ⟨2, _⟩ => ⟨S328x128, .f32⟩
  | .local .scVector .vmem, ⟨3, _⟩ => ⟨S8x16, .f32⟩
  | .local .scVector .vmem, ⟨4, _⟩ => ⟨S8x16, .i32⟩
  | _, _ => ⟨S128x100000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v0_scv : Ref sig .scVector := ⟨.hbm, 1, rfl⟩
abbrev main_v1_0_scv : Ref sig .scVector := ⟨.hbm, 2, rfl⟩
abbrev main_v1_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  let c0_i32 : BitVec 32 := 0#32
  let v3 : BitVec 32 := Scalar.addi v2 c0_i32
  v3
def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  let v3 : BitVec 32 := Scalar.addi v2 c0_i32
  let v4 : BitVec 32 := v3
  let c0_i32_0 : BitVec 32 := 0#32
  ![v4.toNat, 0]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  let c328_i32 : BitVec 32 := 328#32
  let v7 : BitVec 32 := Scalar.addi v2 c328_i32
  v7
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  let c656_i32 : BitVec 32 := 656#32
  let v11 : BitVec 32 := Scalar.addi v2 c656_i32
  v11
@[reducible] def k0_t1_loop : Scf.Loop 32 :=
  let c0_i32_7 : BitVec 32 := 0#32
  let c3_i32 : BitVec 32 := 3#32
  let v17 : BitVec 32 := Scalar.addi c0_i32_7 c3_i32
  let c1_i32 : BitVec 32 := 1#32
  ⟨c0_i32_7, v17, c1_i32⟩
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  let c0_i32_44 : BitVec 32 := 0#32
  let v60 : BitVec 32 := Scalar.addi v2 c0_i32_44
  v60
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  let c0_i32_44 : BitVec 32 := 0#32
  let v60 : BitVec 32 := Scalar.addi v2 c0_i32_44
  let v61 : BitVec 32 := v60
  let c0_i32_45 : BitVec 32 := 0#32
  ![v61.toNat, 0]
@[reducible] def k0_t2_loop : Scf.Loop 32 :=
  let c0_i32_48 : BitVec 32 := 0#32
  let c164_i32_49 : BitVec 32 := 164#32
  let v66 : BitVec 32 := Scalar.addi c0_i32_48 c164_i32_49
  let c1_i32_50 : BitVec 32 := 1#32
  ⟨c0_i32_48, v66, c1_i32_50⟩
def k0_off3 (k0_t2 : Fin k0_t2_loop.trips) (c0_i32_81 : BitVec 32) : Fin 2 → Nat :=
  let c0_i32_48 : BitVec 32 := 0#32
  let c1_i32_50 : BitVec 32 := 1#32
  let arg30 : BitVec 32 := Scf.iv c0_i32_48 c1_i32_50 k0_t2
  let c2_i32_80 : BitVec 32 := 2#32
  let v100 : BitVec 32 := Scalar.muli arg30 c2_i32_80
  let v101 : BitVec 32 := Scalar.addi v100 c0_i32_81
  let v104 : Index := Scalar.indexCast v101
  let c0_82 : Index := 0#32
  ![v104.toNat, 0]
def k0_off4 (k0_t2 : Fin k0_t2_loop.trips) (c0_i32_81 : BitVec 32) : Fin 2 → Nat :=
  let c0_i32_48 : BitVec 32 := 0#32
  let c1_i32_50 : BitVec 32 := 1#32
  let arg30 : BitVec 32 := Scf.iv c0_i32_48 c1_i32_50 k0_t2
  let c2_i32_80 : BitVec 32 := 2#32
  let v100 : BitVec 32 := Scalar.muli arg30 c2_i32_80
  let v101 : BitVec 32 := Scalar.addi v100 c0_i32_81
  let v109 : Index := Scalar.indexCast v101
  let c16 : Index := 16#32
  ![v109.toNat, 16]
def k0_off5 (k0_t2 : Fin k0_t2_loop.trips) (c0_i32_81 : BitVec 32) : Fin 2 → Nat :=
  let c0_i32_48 : BitVec 32 := 0#32
  let c1_i32_50 : BitVec 32 := 1#32
  let arg30 : BitVec 32 := Scf.iv c0_i32_48 c1_i32_50 k0_t2
  let c2_i32_80 : BitVec 32 := 2#32
  let v100 : BitVec 32 := Scalar.muli arg30 c2_i32_80
  let v101 : BitVec 32 := Scalar.addi v100 c0_i32_81
  let v114 : Index := Scalar.indexCast v101
  let c32 : Index := 32#32
  ![v114.toNat, 32]
def k0_off6 (k0_t2 : Fin k0_t2_loop.trips) (c0_i32_81 : BitVec 32) : Fin 2 → Nat :=
  let c0_i32_48 : BitVec 32 := 0#32
  let c1_i32_50 : BitVec 32 := 1#32
  let arg30 : BitVec 32 := Scf.iv c0_i32_48 c1_i32_50 k0_t2
  let c2_i32_80 : BitVec 32 := 2#32
  let v100 : BitVec 32 := Scalar.muli arg30 c2_i32_80
  let v101 : BitVec 32 := Scalar.addi v100 c0_i32_81
  let v119 : Index := Scalar.indexCast v101
  let c48 : Index := 48#32
  ![v119.toNat, 48]
def k0_off7 (k0_t2 : Fin k0_t2_loop.trips) (c0_i32_81 : BitVec 32) : Fin 2 → Nat :=
  let c0_i32_48 : BitVec 32 := 0#32
  let c1_i32_50 : BitVec 32 := 1#32
  let arg30 : BitVec 32 := Scf.iv c0_i32_48 c1_i32_50 k0_t2
  let c2_i32_80 : BitVec 32 := 2#32
  let v100 : BitVec 32 := Scalar.muli arg30 c2_i32_80
  let v101 : BitVec 32 := Scalar.addi v100 c0_i32_81
  let v124 : Index := Scalar.indexCast v101
  let c64 : Index := 64#32
  ![v124.toNat, 64]
def k0_off8 (k0_t2 : Fin k0_t2_loop.trips) (c0_i32_81 : BitVec 32) : Fin 2 → Nat :=
  let c0_i32_48 : BitVec 32 := 0#32
  let c1_i32_50 : BitVec 32 := 1#32
  let arg30 : BitVec 32 := Scf.iv c0_i32_48 c1_i32_50 k0_t2
  let c2_i32_80 : BitVec 32 := 2#32
  let v100 : BitVec 32 := Scalar.muli arg30 c2_i32_80
  let v101 : BitVec 32 := Scalar.addi v100 c0_i32_81
  let v129 : Index := Scalar.indexCast v101
  let c80 : Index := 80#32
  ![v129.toNat, 80]
def k0_off9 (k0_t2 : Fin k0_t2_loop.trips) (c0_i32_81 : BitVec 32) : Fin 2 → Nat :=
  let c0_i32_48 : BitVec 32 := 0#32
  let c1_i32_50 : BitVec 32 := 1#32
  let arg30 : BitVec 32 := Scf.iv c0_i32_48 c1_i32_50 k0_t2
  let c2_i32_80 : BitVec 32 := 2#32
  let v100 : BitVec 32 := Scalar.muli arg30 c2_i32_80
  let v101 : BitVec 32 := Scalar.addi v100 c0_i32_81
  let v134 : Index := Scalar.indexCast v101
  let c96 : Index := 96#32
  ![v134.toNat, 96]
def k0_off10 (k0_t2 : Fin k0_t2_loop.trips) (c0_i32_81 : BitVec 32) : Fin 2 → Nat :=
  let c0_i32_48 : BitVec 32 := 0#32
  let c1_i32_50 : BitVec 32 := 1#32
  let arg30 : BitVec 32 := Scf.iv c0_i32_48 c1_i32_50 k0_t2
  let c2_i32_80 : BitVec 32 := 2#32
  let v100 : BitVec 32 := Scalar.muli arg30 c2_i32_80
  let v101 : BitVec 32 := Scalar.addi v100 c0_i32_81
  let v139 : Index := Scalar.indexCast v101
  let c112 : Index := 112#32
  ![v139.toNat, 112]
def k0_cond1 (k0_t1 : Fin k0_t1_loop.trips) : BitVec 1 :=
  let c0_i32_7 : BitVec 32 := 0#32
  let c1_i32 : BitVec 32 := 1#32
  let arg13 : BitVec 32 := Scf.iv c0_i32_7 c1_i32 k0_t1
  let c3_i32_42 : BitVec 32 := 3#32
  let v58 : BitVec 32 := Scalar.muli arg13 c3_i32_42
  let c0_i32_43 : BitVec 32 := 0#32
  let v59 : BitVec 32 := Scalar.addi v58 c0_i32_43
  let c3_i32_52 : BitVec 32 := 3#32
  let v68 : BitVec 32 := Scalar.addi v59 c3_i32_52
  let c10_i32 : BitVec 32 := 10#32
  let v69 : BitVec 1 := Scalar.cmpi .slt v68 c10_i32
  let v70 : BitVec 32 := Scalar.extui v69
  let c0_i32_53 : BitVec 32 := 0#32
  let v71 : BitVec 1 := Scalar.cmpi .ne v70 c0_i32_53
  v71

def k0_mult5 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  let c0_i32_7 : BitVec 32 := 0#32
  let c1_i32 : BitVec 32 := 1#32
  let arg13 : BitVec 32 := Scf.iv c0_i32_7 c1_i32 k0_t1
  let c3_i32_42 : BitVec 32 := 3#32
  let v58 : BitVec 32 := Scalar.muli arg13 c3_i32_42
  let c0_i32_43 : BitVec 32 := 0#32
  let v59 : BitVec 32 := Scalar.addi v58 c0_i32_43
  let c3_i32_80 : BitVec 32 := 3#32
  let v100 : BitVec 32 := Scalar.addi v59 c3_i32_80
  let c328_i32_81 : BitVec 32 := 328#32
  let v101 : BitVec 32 := Scalar.muli v100 c328_i32_81
  let v102 : BitVec 32 := Scalar.addi v2 v101
  v102
def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  let c0_i32_7 : BitVec 32 := 0#32
  let c1_i32 : BitVec 32 := 1#32
  let arg13 : BitVec 32 := Scf.iv c0_i32_7 c1_i32 k0_t1
  let c3_i32_42 : BitVec 32 := 3#32
  let v58 : BitVec 32 := Scalar.muli arg13 c3_i32_42
  let c0_i32_43 : BitVec 32 := 0#32
  let v59 : BitVec 32 := Scalar.addi v58 c0_i32_43
  let c3_i32_80 : BitVec 32 := 3#32
  let v100 : BitVec 32 := Scalar.addi v59 c3_i32_80
  let c328_i32_81 : BitVec 32 := 328#32
  let v101 : BitVec 32 := Scalar.muli v100 c328_i32_81
  let v102 : BitVec 32 := Scalar.addi v2 v101
  let v103 : BitVec 32 := v102
  let c0_i32_82 : BitVec 32 := 0#32
  ![v103.toNat, 0]
def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  let c0_i32_56 : BitVec 32 := 0#32
  let v74 : BitVec 32 := Scalar.addi v2 c0_i32_56
  v74
@[reducible] def k0_t3_loop : Scf.Loop 32 :=
  let c0_i32_60 : BitVec 32 := 0#32
  let c164_i32_61 : BitVec 32 := 164#32
  let v80 : BitVec 32 := Scalar.addi c0_i32_60 c164_i32_61
  let c1_i32_62 : BitVec 32 := 1#32
  ⟨c0_i32_60, v80, c1_i32_62⟩
def k0_off12 (k0_t3 : Fin k0_t3_loop.trips) (c0_i32_81 : BitVec 32) : Fin 2 → Nat :=
  let c0_i32_60 : BitVec 32 := 0#32
  let c1_i32_62 : BitVec 32 := 1#32
  let arg30 : BitVec 32 := Scf.iv c0_i32_60 c1_i32_62 k0_t3
  let c2_i32_80 : BitVec 32 := 2#32
  let v100 : BitVec 32 := Scalar.muli arg30 c2_i32_80
  let v101 : BitVec 32 := Scalar.addi v100 c0_i32_81
  let v104 : Index := Scalar.indexCast v101
  let c0_82 : Index := 0#32
  ![v104.toNat, 0]
def k0_off13 (k0_t3 : Fin k0_t3_loop.trips) (c0_i32_81 : BitVec 32) : Fin 2 → Nat :=
  let c0_i32_60 : BitVec 32 := 0#32
  let c1_i32_62 : BitVec 32 := 1#32
  let arg30 : BitVec 32 := Scf.iv c0_i32_60 c1_i32_62 k0_t3
  let c2_i32_80 : BitVec 32 := 2#32
  let v100 : BitVec 32 := Scalar.muli arg30 c2_i32_80
  let v101 : BitVec 32 := Scalar.addi v100 c0_i32_81
  let v109 : Index := Scalar.indexCast v101
  let c16 : Index := 16#32
  ![v109.toNat, 16]
def k0_off14 (k0_t3 : Fin k0_t3_loop.trips) (c0_i32_81 : BitVec 32) : Fin 2 → Nat :=
  let c0_i32_60 : BitVec 32 := 0#32
  let c1_i32_62 : BitVec 32 := 1#32
  let arg30 : BitVec 32 := Scf.iv c0_i32_60 c1_i32_62 k0_t3
  let c2_i32_80 : BitVec 32 := 2#32
  let v100 : BitVec 32 := Scalar.muli arg30 c2_i32_80
  let v101 : BitVec 32 := Scalar.addi v100 c0_i32_81
  let v114 : Index := Scalar.indexCast v101
  let c32 : Index := 32#32
  ![v114.toNat, 32]
def k0_off15 (k0_t3 : Fin k0_t3_loop.trips) (c0_i32_81 : BitVec 32) : Fin 2 → Nat :=
  let c0_i32_60 : BitVec 32 := 0#32
  let c1_i32_62 : BitVec 32 := 1#32
  let arg30 : BitVec 32 := Scf.iv c0_i32_60 c1_i32_62 k0_t3
  let c2_i32_80 : BitVec 32 := 2#32
  let v100 : BitVec 32 := Scalar.muli arg30 c2_i32_80
  let v101 : BitVec 32 := Scalar.addi v100 c0_i32_81
  let v119 : Index := Scalar.indexCast v101
  let c48 : Index := 48#32
  ![v119.toNat, 48]
def k0_off16 (k0_t3 : Fin k0_t3_loop.trips) (c0_i32_81 : BitVec 32) : Fin 2 → Nat :=
  let c0_i32_60 : BitVec 32 := 0#32
  let c1_i32_62 : BitVec 32 := 1#32
  let arg30 : BitVec 32 := Scf.iv c0_i32_60 c1_i32_62 k0_t3
  let c2_i32_80 : BitVec 32 := 2#32
  let v100 : BitVec 32 := Scalar.muli arg30 c2_i32_80
  let v101 : BitVec 32 := Scalar.addi v100 c0_i32_81
  let v124 : Index := Scalar.indexCast v101
  let c64 : Index := 64#32
  ![v124.toNat, 64]
def k0_off17 (k0_t3 : Fin k0_t3_loop.trips) (c0_i32_81 : BitVec 32) : Fin 2 → Nat :=
  let c0_i32_60 : BitVec 32 := 0#32
  let c1_i32_62 : BitVec 32 := 1#32
  let arg30 : BitVec 32 := Scf.iv c0_i32_60 c1_i32_62 k0_t3
  let c2_i32_80 : BitVec 32 := 2#32
  let v100 : BitVec 32 := Scalar.muli arg30 c2_i32_80
  let v101 : BitVec 32 := Scalar.addi v100 c0_i32_81
  let v129 : Index := Scalar.indexCast v101
  let c80 : Index := 80#32
  ![v129.toNat, 80]
def k0_off18 (k0_t3 : Fin k0_t3_loop.trips) (c0_i32_81 : BitVec 32) : Fin 2 → Nat :=
  let c0_i32_60 : BitVec 32 := 0#32
  let c1_i32_62 : BitVec 32 := 1#32
  let arg30 : BitVec 32 := Scf.iv c0_i32_60 c1_i32_62 k0_t3
  let c2_i32_80 : BitVec 32 := 2#32
  let v100 : BitVec 32 := Scalar.muli arg30 c2_i32_80
  let v101 : BitVec 32 := Scalar.addi v100 c0_i32_81
  let v134 : Index := Scalar.indexCast v101
  let c96 : Index := 96#32
  ![v134.toNat, 96]
def k0_off19 (k0_t3 : Fin k0_t3_loop.trips) (c0_i32_81 : BitVec 32) : Fin 2 → Nat :=
  let c0_i32_60 : BitVec 32 := 0#32
  let c1_i32_62 : BitVec 32 := 1#32
  let arg30 : BitVec 32 := Scf.iv c0_i32_60 c1_i32_62 k0_t3
  let c2_i32_80 : BitVec 32 := 2#32
  let v100 : BitVec 32 := Scalar.muli arg30 c2_i32_80
  let v101 : BitVec 32 := Scalar.addi v100 c0_i32_81
  let v139 : Index := Scalar.indexCast v101
  let c112 : Index := 112#32
  ![v139.toNat, 112]
def k0_cond2 (k0_t1 : Fin k0_t1_loop.trips) : BitVec 1 :=
  let c0_i32_7 : BitVec 32 := 0#32
  let c1_i32 : BitVec 32 := 1#32
  let arg13 : BitVec 32 := Scf.iv c0_i32_7 c1_i32 k0_t1
  let c3_i32_54 : BitVec 32 := 3#32
  let v72 : BitVec 32 := Scalar.muli arg13 c3_i32_54
  let c1_i32_55 : BitVec 32 := 1#32
  let v73 : BitVec 32 := Scalar.addi v72 c1_i32_55
  let c3_i32_64 : BitVec 32 := 3#32
  let v82 : BitVec 32 := Scalar.addi v73 c3_i32_64
  let c10_i32_65 : BitVec 32 := 10#32
  let v83 : BitVec 1 := Scalar.cmpi .slt v82 c10_i32_65
  let v84 : BitVec 32 := Scalar.extui v83
  let c0_i32_66 : BitVec 32 := 0#32
  let v85 : BitVec 1 := Scalar.cmpi .ne v84 c0_i32_66
  v85

def k0_mult7 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  let c0_i32_7 : BitVec 32 := 0#32
  let c1_i32 : BitVec 32 := 1#32
  let arg13 : BitVec 32 := Scf.iv c0_i32_7 c1_i32 k0_t1
  let c3_i32_54 : BitVec 32 := 3#32
  let v72 : BitVec 32 := Scalar.muli arg13 c3_i32_54
  let c1_i32_55 : BitVec 32 := 1#32
  let v73 : BitVec 32 := Scalar.addi v72 c1_i32_55
  let c3_i32_80 : BitVec 32 := 3#32
  let v100 : BitVec 32 := Scalar.addi v73 c3_i32_80
  let c328_i32_81 : BitVec 32 := 328#32
  let v101 : BitVec 32 := Scalar.muli v100 c328_i32_81
  let v102 : BitVec 32 := Scalar.addi v2 v101
  v102
def k0_off20 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  let c0_i32_7 : BitVec 32 := 0#32
  let c1_i32 : BitVec 32 := 1#32
  let arg13 : BitVec 32 := Scf.iv c0_i32_7 c1_i32 k0_t1
  let c3_i32_54 : BitVec 32 := 3#32
  let v72 : BitVec 32 := Scalar.muli arg13 c3_i32_54
  let c1_i32_55 : BitVec 32 := 1#32
  let v73 : BitVec 32 := Scalar.addi v72 c1_i32_55
  let c3_i32_80 : BitVec 32 := 3#32
  let v100 : BitVec 32 := Scalar.addi v73 c3_i32_80
  let c328_i32_81 : BitVec 32 := 328#32
  let v101 : BitVec 32 := Scalar.muli v100 c328_i32_81
  let v102 : BitVec 32 := Scalar.addi v2 v101
  let v103 : BitVec 32 := v102
  let c0_i32_82 : BitVec 32 := 0#32
  ![v103.toNat, 0]
def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  let c0_i32_69 : BitVec 32 := 0#32
  let v88 : BitVec 32 := Scalar.addi v2 c0_i32_69
  v88
@[reducible] def k0_t4_loop : Scf.Loop 32 :=
  let c0_i32_73 : BitVec 32 := 0#32
  let c164_i32_74 : BitVec 32 := 164#32
  let v94 : BitVec 32 := Scalar.addi c0_i32_73 c164_i32_74
  let c1_i32_75 : BitVec 32 := 1#32
  ⟨c0_i32_73, v94, c1_i32_75⟩
def k0_off21 (k0_t4 : Fin k0_t4_loop.trips) (c0_i32_81 : BitVec 32) : Fin 2 → Nat :=
  let c0_i32_73 : BitVec 32 := 0#32
  let c1_i32_75 : BitVec 32 := 1#32
  let arg30 : BitVec 32 := Scf.iv c0_i32_73 c1_i32_75 k0_t4
  let c2_i32_80 : BitVec 32 := 2#32
  let v100 : BitVec 32 := Scalar.muli arg30 c2_i32_80
  let v101 : BitVec 32 := Scalar.addi v100 c0_i32_81
  let v104 : Index := Scalar.indexCast v101
  let c0_82 : Index := 0#32
  ![v104.toNat, 0]
def k0_off22 (k0_t4 : Fin k0_t4_loop.trips) (c0_i32_81 : BitVec 32) : Fin 2 → Nat :=
  let c0_i32_73 : BitVec 32 := 0#32
  let c1_i32_75 : BitVec 32 := 1#32
  let arg30 : BitVec 32 := Scf.iv c0_i32_73 c1_i32_75 k0_t4
  let c2_i32_80 : BitVec 32 := 2#32
  let v100 : BitVec 32 := Scalar.muli arg30 c2_i32_80
  let v101 : BitVec 32 := Scalar.addi v100 c0_i32_81
  let v109 : Index := Scalar.indexCast v101
  let c16 : Index := 16#32
  ![v109.toNat, 16]
def k0_off23 (k0_t4 : Fin k0_t4_loop.trips) (c0_i32_81 : BitVec 32) : Fin 2 → Nat :=
  let c0_i32_73 : BitVec 32 := 0#32
  let c1_i32_75 : BitVec 32 := 1#32
  let arg30 : BitVec 32 := Scf.iv c0_i32_73 c1_i32_75 k0_t4
  let c2_i32_80 : BitVec 32 := 2#32
  let v100 : BitVec 32 := Scalar.muli arg30 c2_i32_80
  let v101 : BitVec 32 := Scalar.addi v100 c0_i32_81
  let v114 : Index := Scalar.indexCast v101
  let c32 : Index := 32#32
  ![v114.toNat, 32]
def k0_off24 (k0_t4 : Fin k0_t4_loop.trips) (c0_i32_81 : BitVec 32) : Fin 2 → Nat :=
  let c0_i32_73 : BitVec 32 := 0#32
  let c1_i32_75 : BitVec 32 := 1#32
  let arg30 : BitVec 32 := Scf.iv c0_i32_73 c1_i32_75 k0_t4
  let c2_i32_80 : BitVec 32 := 2#32
  let v100 : BitVec 32 := Scalar.muli arg30 c2_i32_80
  let v101 : BitVec 32 := Scalar.addi v100 c0_i32_81
  let v119 : Index := Scalar.indexCast v101
  let c48 : Index := 48#32
  ![v119.toNat, 48]
def k0_off25 (k0_t4 : Fin k0_t4_loop.trips) (c0_i32_81 : BitVec 32) : Fin 2 → Nat :=
  let c0_i32_73 : BitVec 32 := 0#32
  let c1_i32_75 : BitVec 32 := 1#32
  let arg30 : BitVec 32 := Scf.iv c0_i32_73 c1_i32_75 k0_t4
  let c2_i32_80 : BitVec 32 := 2#32
  let v100 : BitVec 32 := Scalar.muli arg30 c2_i32_80
  let v101 : BitVec 32 := Scalar.addi v100 c0_i32_81
  let v124 : Index := Scalar.indexCast v101
  let c64 : Index := 64#32
  ![v124.toNat, 64]
def k0_off26 (k0_t4 : Fin k0_t4_loop.trips) (c0_i32_81 : BitVec 32) : Fin 2 → Nat :=
  let c0_i32_73 : BitVec 32 := 0#32
  let c1_i32_75 : BitVec 32 := 1#32
  let arg30 : BitVec 32 := Scf.iv c0_i32_73 c1_i32_75 k0_t4
  let c2_i32_80 : BitVec 32 := 2#32
  let v100 : BitVec 32 := Scalar.muli arg30 c2_i32_80
  let v101 : BitVec 32 := Scalar.addi v100 c0_i32_81
  let v129 : Index := Scalar.indexCast v101
  let c80 : Index := 80#32
  ![v129.toNat, 80]
def k0_off27 (k0_t4 : Fin k0_t4_loop.trips) (c0_i32_81 : BitVec 32) : Fin 2 → Nat :=
  let c0_i32_73 : BitVec 32 := 0#32
  let c1_i32_75 : BitVec 32 := 1#32
  let arg30 : BitVec 32 := Scf.iv c0_i32_73 c1_i32_75 k0_t4
  let c2_i32_80 : BitVec 32 := 2#32
  let v100 : BitVec 32 := Scalar.muli arg30 c2_i32_80
  let v101 : BitVec 32 := Scalar.addi v100 c0_i32_81
  let v134 : Index := Scalar.indexCast v101
  let c96 : Index := 96#32
  ![v134.toNat, 96]
def k0_off28 (k0_t4 : Fin k0_t4_loop.trips) (c0_i32_81 : BitVec 32) : Fin 2 → Nat :=
  let c0_i32_73 : BitVec 32 := 0#32
  let c1_i32_75 : BitVec 32 := 1#32
  let arg30 : BitVec 32 := Scf.iv c0_i32_73 c1_i32_75 k0_t4
  let c2_i32_80 : BitVec 32 := 2#32
  let v100 : BitVec 32 := Scalar.muli arg30 c2_i32_80
  let v101 : BitVec 32 := Scalar.addi v100 c0_i32_81
  let v139 : Index := Scalar.indexCast v101
  let c112 : Index := 112#32
  ![v139.toNat, 112]
def k0_cond3 (k0_t1 : Fin k0_t1_loop.trips) : BitVec 1 :=
  let c0_i32_7 : BitVec 32 := 0#32
  let c1_i32 : BitVec 32 := 1#32
  let arg13 : BitVec 32 := Scf.iv c0_i32_7 c1_i32 k0_t1
  let c3_i32_67 : BitVec 32 := 3#32
  let v86 : BitVec 32 := Scalar.muli arg13 c3_i32_67
  let c2_i32_68 : BitVec 32 := 2#32
  let v87 : BitVec 32 := Scalar.addi v86 c2_i32_68
  let c3_i32_77 : BitVec 32 := 3#32
  let v96 : BitVec 32 := Scalar.addi v87 c3_i32_77
  let c10_i32_78 : BitVec 32 := 10#32
  let v97 : BitVec 1 := Scalar.cmpi .slt v96 c10_i32_78
  let v98 : BitVec 32 := Scalar.extui v97
  let c0_i32_79 : BitVec 32 := 0#32
  let v99 : BitVec 1 := Scalar.cmpi .ne v98 c0_i32_79
  v99

def k0_mult9 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  let c0_i32_7 : BitVec 32 := 0#32
  let c1_i32 : BitVec 32 := 1#32
  let arg13 : BitVec 32 := Scf.iv c0_i32_7 c1_i32 k0_t1
  let c3_i32_67 : BitVec 32 := 3#32
  let v86 : BitVec 32 := Scalar.muli arg13 c3_i32_67
  let c2_i32_68 : BitVec 32 := 2#32
  let v87 : BitVec 32 := Scalar.addi v86 c2_i32_68
  let c3_i32_80 : BitVec 32 := 3#32
  let v100 : BitVec 32 := Scalar.addi v87 c3_i32_80
  let c328_i32_81 : BitVec 32 := 328#32
  let v101 : BitVec 32 := Scalar.muli v100 c328_i32_81
  let v102 : BitVec 32 := Scalar.addi v2 v101
  v102
def k0_off29 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  let c0_i32_7 : BitVec 32 := 0#32
  let c1_i32 : BitVec 32 := 1#32
  let arg13 : BitVec 32 := Scf.iv c0_i32_7 c1_i32 k0_t1
  let c3_i32_67 : BitVec 32 := 3#32
  let v86 : BitVec 32 := Scalar.muli arg13 c3_i32_67
  let c2_i32_68 : BitVec 32 := 2#32
  let v87 : BitVec 32 := Scalar.addi v86 c2_i32_68
  let c3_i32_80 : BitVec 32 := 3#32
  let v100 : BitVec 32 := Scalar.addi v87 c3_i32_80
  let c328_i32_81 : BitVec 32 := 328#32
  let v101 : BitVec 32 := Scalar.muli v100 c328_i32_81
  let v102 : BitVec 32 := Scalar.addi v2 v101
  let v103 : BitVec 32 := v102
  let c0_i32_82 : BitVec 32 := 0#32
  ![v103.toNat, 0]
def k0_mult10 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  let c0_i32_9 : BitVec 32 := 0#32
  let v19 : BitVec 32 := Scalar.addi v2 c0_i32_9
  v19
@[reducible] def k0_t5_loop : Scf.Loop 32 :=
  let c0_i32_12 : BitVec 32 := 0#32
  let c164_i32 : BitVec 32 := 164#32
  let v24 : BitVec 32 := Scalar.addi c0_i32_12 c164_i32
  let c1_i32_13 : BitVec 32 := 1#32
  ⟨c0_i32_12, v24, c1_i32_13⟩
def k0_off30 (k0_t5 : Fin k0_t5_loop.trips) (c0_i32_43 : BitVec 32) : Fin 2 → Nat :=
  let c0_i32_12 : BitVec 32 := 0#32
  let c1_i32_13 : BitVec 32 := 1#32
  let arg13 : BitVec 32 := Scf.iv c0_i32_12 c1_i32_13 k0_t5
  let c2_i32_42 : BitVec 32 := 2#32
  let v58 : BitVec 32 := Scalar.muli arg13 c2_i32_42
  let v59 : BitVec 32 := Scalar.addi v58 c0_i32_43
  let v62 : Index := Scalar.indexCast v59
  let c0_44 : Index := 0#32
  ![v62.toNat, 0]
def k0_off31 (k0_t5 : Fin k0_t5_loop.trips) (c0_i32_43 : BitVec 32) : Fin 2 → Nat :=
  let c0_i32_12 : BitVec 32 := 0#32
  let c1_i32_13 : BitVec 32 := 1#32
  let arg13 : BitVec 32 := Scf.iv c0_i32_12 c1_i32_13 k0_t5
  let c2_i32_42 : BitVec 32 := 2#32
  let v58 : BitVec 32 := Scalar.muli arg13 c2_i32_42
  let v59 : BitVec 32 := Scalar.addi v58 c0_i32_43
  let v67 : Index := Scalar.indexCast v59
  let c16 : Index := 16#32
  ![v67.toNat, 16]
def k0_off32 (k0_t5 : Fin k0_t5_loop.trips) (c0_i32_43 : BitVec 32) : Fin 2 → Nat :=
  let c0_i32_12 : BitVec 32 := 0#32
  let c1_i32_13 : BitVec 32 := 1#32
  let arg13 : BitVec 32 := Scf.iv c0_i32_12 c1_i32_13 k0_t5
  let c2_i32_42 : BitVec 32 := 2#32
  let v58 : BitVec 32 := Scalar.muli arg13 c2_i32_42
  let v59 : BitVec 32 := Scalar.addi v58 c0_i32_43
  let v72 : Index := Scalar.indexCast v59
  let c32 : Index := 32#32
  ![v72.toNat, 32]
def k0_off33 (k0_t5 : Fin k0_t5_loop.trips) (c0_i32_43 : BitVec 32) : Fin 2 → Nat :=
  let c0_i32_12 : BitVec 32 := 0#32
  let c1_i32_13 : BitVec 32 := 1#32
  let arg13 : BitVec 32 := Scf.iv c0_i32_12 c1_i32_13 k0_t5
  let c2_i32_42 : BitVec 32 := 2#32
  let v58 : BitVec 32 := Scalar.muli arg13 c2_i32_42
  let v59 : BitVec 32 := Scalar.addi v58 c0_i32_43
  let v77 : Index := Scalar.indexCast v59
  let c48 : Index := 48#32
  ![v77.toNat, 48]
def k0_off34 (k0_t5 : Fin k0_t5_loop.trips) (c0_i32_43 : BitVec 32) : Fin 2 → Nat :=
  let c0_i32_12 : BitVec 32 := 0#32
  let c1_i32_13 : BitVec 32 := 1#32
  let arg13 : BitVec 32 := Scf.iv c0_i32_12 c1_i32_13 k0_t5
  let c2_i32_42 : BitVec 32 := 2#32
  let v58 : BitVec 32 := Scalar.muli arg13 c2_i32_42
  let v59 : BitVec 32 := Scalar.addi v58 c0_i32_43
  let v82 : Index := Scalar.indexCast v59
  let c64 : Index := 64#32
  ![v82.toNat, 64]
def k0_off35 (k0_t5 : Fin k0_t5_loop.trips) (c0_i32_43 : BitVec 32) : Fin 2 → Nat :=
  let c0_i32_12 : BitVec 32 := 0#32
  let c1_i32_13 : BitVec 32 := 1#32
  let arg13 : BitVec 32 := Scf.iv c0_i32_12 c1_i32_13 k0_t5
  let c2_i32_42 : BitVec 32 := 2#32
  let v58 : BitVec 32 := Scalar.muli arg13 c2_i32_42
  let v59 : BitVec 32 := Scalar.addi v58 c0_i32_43
  let v87 : Index := Scalar.indexCast v59
  let c80 : Index := 80#32
  ![v87.toNat, 80]
def k0_off36 (k0_t5 : Fin k0_t5_loop.trips) (c0_i32_43 : BitVec 32) : Fin 2 → Nat :=
  let c0_i32_12 : BitVec 32 := 0#32
  let c1_i32_13 : BitVec 32 := 1#32
  let arg13 : BitVec 32 := Scf.iv c0_i32_12 c1_i32_13 k0_t5
  let c2_i32_42 : BitVec 32 := 2#32
  let v58 : BitVec 32 := Scalar.muli arg13 c2_i32_42
  let v59 : BitVec 32 := Scalar.addi v58 c0_i32_43
  let v92 : Index := Scalar.indexCast v59
  let c96 : Index := 96#32
  ![v92.toNat, 96]
def k0_off37 (k0_t5 : Fin k0_t5_loop.trips) (c0_i32_43 : BitVec 32) : Fin 2 → Nat :=
  let c0_i32_12 : BitVec 32 := 0#32
  let c1_i32_13 : BitVec 32 := 1#32
  let arg13 : BitVec 32 := Scf.iv c0_i32_12 c1_i32_13 k0_t5
  let c2_i32_42 : BitVec 32 := 2#32
  let v58 : BitVec 32 := Scalar.muli arg13 c2_i32_42
  let v59 : BitVec 32 := Scalar.addi v58 c0_i32_43
  let v97 : Index := Scalar.indexCast v59
  let c112 : Index := 112#32
  ![v97.toNat, 112]
def k0_off38 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42_r0 : BitVec 32 := 0#32
  let c0_i32_43_r0 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x100000 : Shape := ⟨2, ![128, 100000]⟩
abbrev S128x1 : Shape := ⟨2, ![128, 1]⟩

abbrev nBuf : Space → Nat
  | .hbm => 3
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x1, .f32⟩
  | .hbm, ⟨2, _⟩ => ⟨S128x1, .i32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩

abbrev nD : Nat := 1
abbrev τ : Topo := Topo.v7x

variable {F : FTy → Type} [FloatOps F]
-- ==== Proof.Scan.lean ====
/-
  The running argmax of a tile, as plain functions of the columns it reads.

  A tile reads columns of 128 numbers one after the other and keeps, for each of the 128 places, the largest number met so
  far and the number of the column it was met in: a new number replaces the kept one only when it is strictly larger. Both
  are kept as eight vectors of sixteen lanes. This module states that fold once, for any arithmetic of the floats.
-/
module

public import Idealize.ShloMosaic.Lib.Tactic
public import Idealize.ShloMosaic.Lib.ValueLayout

@[expose] public section

noncomputable section

namespace Cert.Proof.Scan

open Idealize.ShloMosaic Idealize.ShloMosaic.ValueIdx

variable {F : FTy → Type}

/-- Sixteen lanes. -/
abbrev L16 : Shape := ⟨1, ![16]⟩

/-- The place, of the 128, of lane `l` of vector `u`. -/
def lane (u : Fin 8) (l : L16.Idx) : Fin 128 := ⟨16 * u.val + (l 0).val, by have h : (l 0).val < 16 := (l 0).isLt; omega⟩

/-- Vector `u` of column `n`. -/
def colV (X : ℕ → Fin 128 → F .f32) (n : ℕ) (u : Fin 8) : FVec F L16 .f32 := fun l => X n (lane u l)

/-- The columns of a table from column `w` on (a column number past the table counts from its start again). -/
def colsAt (T : (⟨2, ![100000, 128]⟩ : Shape).Idx → F .f32) (w n : ℕ) (c : Fin 128) : F .f32 :=
  T (ix2 ⟨(w + n) % 100000, Nat.mod_lt _ (by omega)⟩ c)

/-- The carried values of the tile's loops: eight vectors of numbers and eight of column numbers. -/
abbrev Carry (F : FTy → Type) : Type :=
  FVec F L16 .f32 × FVec F L16 .f32 × FVec F L16 .f32 × FVec F L16 .f32 × FVec F L16 .f32 × FVec F L16 .f32 × FVec F L16 .f32
    × FVec F L16 .f32 × IVec L16 32 × IVec L16 32 × IVec L16 32 × IVec L16 32 × IVec L16 32 × IVec L16 32 × IVec L16 32 × IVec L16 32

/-- The carried values, from the two families of vectors. -/
def pack (a : Fin 8 → FVec F L16 .f32) (c : Fin 8 → IVec L16 32) : Carry F :=
  (a 0, a 1, a 2, a 3, a 4, a 5, a 6, a 7, c 0, c 1, c 2, c 3, c 4, c 5, c 6, c 7)

variable [FloatOps F]

/-- Where the vector `x` beats the kept vector `a`. -/
def beats (x a : FVec F L16 .f32) : IVec L16 1 := cmpf .ogt x a

/-- The kept numbers after the first `n` columns. -/
def accV (X : ℕ → Fin 128 → F .f32) : ℕ → Fin 8 → FVec F L16 .f32
  | 0, _ => broadcast L16 (Scalar.ofBits .f32 0xFF800000#32)
  | n + 1, u => select (beats (colV X n u) (accV X n u)) (colV X n u) (accV X n u)

/-- The kept column numbers after the first `n` columns, the first of them being column `w` of the table. -/
def accC (X : ℕ → Fin 128 → F .f32) (w : ℕ) : ℕ → Fin 8 → IVec L16 32
  | 0, _ => broadcast L16 0#32
  | n + 1, u => select (beats (colV X n u) (accV X n u)) (broadcast L16 (BitVec.ofNat 32 (w + n))) (accC X w n u)

/-- Everything kept after the first `n` columns. -/
def kept (X : ℕ → Fin 128 → F .f32) (w n : ℕ) : Carry F := pack (accV X n) (accC X w n)

/-- Two columns taken into the kept numbers. -/
theorem two_V {X : ℕ → Fin 128 → F .f32} {n : ℕ} {u : Fin 8} {x₀ x₁ : FVec F L16 .f32} (h₀ : x₀ = colV X n u) (h₁ : x₁ = colV X (n + 1) u) :
    select (beats x₁ (select (beats x₀ (accV X n u)) x₀ (accV X n u))) x₁ (select (beats x₀ (accV X n u)) x₀ (accV X n u)) = accV X (n + 2) u := by
  subst h₀ h₁; rfl

/-- Two columns taken into the kept column numbers. -/
theorem two_C {X : ℕ → Fin 128 → F .f32} {w n : ℕ} {u : Fin 8} {x₀ x₁ : FVec F L16 .f32} {c₀ c₁ : IVec L16 32} (h₀ : x₀ = colV X n u)
    (h₁ : x₁ = colV X (n + 1) u) (k₀ : c₀ = broadcast L16 (BitVec.ofNat 32 (w + n))) (k₁ : c₁ = broadcast L16 (BitVec.ofNat 32 (w + (n + 1)))) :
    select (beats x₁ (select (beats x₀ (accV X n u)) x₀ (accV X n u))) c₁ (select (beats x₀ (accV X n u)) c₀ (accC X w n u)) = accC X w (n + 2) u := by
  subst h₀ h₁ k₀ k₁; rfl

/-- Sixteen lanes loaded out of row `r` of a buffer of 328 columns are vector `u` of the column that row holds. -/
theorem load_eq {sig : RefSig} {κ : Kind} {sp : Space} (v : View sig κ sp ⟨2, ![328, 128]⟩ .f32) (f : v.ty.Contents (Elt F)) {X : ℕ → Fin 128 → F .f32} {n₀ : ℕ}
    (hf : ∀ x : (⟨2, ![328, 128]⟩ : Shape).Idx, v.read (Elt F) f x = X (n₀ + (x 0).val) (x 1)) {off : Fin 2 → ℕ} {r : ℕ} {u : Fin 8}
    (hoff : off = ![r, 16 * u.val]) (inb : ∀ a, off a + (⟨2, ![1, 16]⟩ : Shape).size a ≤ (⟨2, ![328, 128]⟩ : Shape).size a)
    (hc : (⟨2, ![1, 16]⟩ : Shape).ShapeCasts L16) :
    shapeCast L16 (v.readAt (Elt F) (Rect.unit (s := ⟨2, ![328, 128]⟩) off (⟨2, ![1, 16]⟩ : Shape).size inb).toLoadRect f) hc = colV X (n₀ + r) u := by
  subst hoff
  funext l
  obtain ⟨i, rfl⟩ : ∃ i : Fin 16, l = ix1 i := ⟨l 0, funext fun | ⟨0, _⟩ => rfl⟩
  refine (shapeCast_1a_a_apply (a := 16) _ hc i).trans ?_
  rw [View.readAt_apply, hf]
  unfold colV lane
  congr 1
  · simp [Rect.toLoadRect, Rect.unit, LoadRect.idx, ix2]

/-- The number of a column, as the loop computes it: the block's first column, and twice the trip. -/
theorem word_eq (w n₀ k : ℕ) (e : ℕ) :
    Scalar.addi (BitVec.ofNat 32 (w + n₀)) (Scalar.addi (Scalar.muli (Scf.iv 0#32 1#32 k) 2#32) (BitVec.ofNat 32 e)) = BitVec.ofNat 32 (w + (n₀ + 2 * k + e)) := by
  unfold Scalar.addi Scalar.muli IntOp.addi IntOp.muli Scf.iv
  apply BitVec.eq_of_toNat_eq
  simp only [BitVec.toNat_add, BitVec.toNat_mul, BitVec.toNat_ofNat]
  omega

/-- Eight rows of sixteen lanes stored one under the other, the last one listed first, read back: place `x` holds lane `x 1` of the
    vector stored in row `x 0`. -/
theorem read_rows {sig : RefSig} {κ : Kind} {sp : Space} {e : EltTy} {Val : EltTy → Type} (v : View sig κ sp ⟨2, ![8, 16]⟩ e) (f : v.ty.Contents Val)
    (A : Fin 8 → L16.Idx → Val e)
    (inb : ∀ u : Fin 8, ∀ a, (![u.val, 0] : Fin 2 → ℕ) a + (⟨2, ![1, 16]⟩ : Shape).size a ≤ (⟨2, ![8, 16]⟩ : Shape).size a)
    (hc : L16.ShapeCasts ⟨2, ![1, 16]⟩) (x : (⟨2, ![8, 16]⟩ : Shape).Idx) :
    v.read Val (v.writes Val f ([7, 6, 5, 4, 3, 2, 1, 0].map fun u : Fin 8 =>
      (⟨Rect.unit (s := ⟨2, ![8, 16]⟩) ![u.val, 0] (⟨2, ![1, 16]⟩ : Shape).size (inb u), shapeCast ⟨2, ![1, 16]⟩ (A u) hc⟩ : View.Piece Val ⟨2, ![8, 16]⟩ e))) x
        = A (x 0) (ix1 (x 1)) := by
  refine View.read_writes_apply_of_pieces v f (fun x => A (x 0) (ix1 (x 1))) _ (fun p hp y => ?_) x ?_
  · obtain ⟨u, -, rfl⟩ := List.mem_map.mp hp
    have hy : y = ix2 (0 : Fin 1) (y 1) := by
      funext a
      match a with
      | ⟨0, _⟩ => exact Subsingleton.elim (α := Fin 1) _ _
      | ⟨1, _⟩ => rfl
    rw [hy]
    refine (shapeCast_a_1a_apply (a := 16) _ hc 0 (y 1)).trans ?_
    have h0 : ((Rect.unit (s := ⟨2, ![8, 16]⟩) ![u.val, 0] (⟨2, ![1, 16]⟩ : Shape).size (inb u)).emb (ix2 (0 : Fin 1) (y 1))) 0 = u :=
      Fin.ext (by simp [Rect.emb, Rect.unit, ix2])
    have h1 : ((Rect.unit (s := ⟨2, ![8, 16]⟩) ![u.val, 0] (⟨2, ![1, 16]⟩ : Shape).size (inb u)).emb (ix2 (0 : Fin 1) (y 1))) 1 = y 1 :=
      Fin.ext (by simp [Rect.emb, Rect.unit, ix2])
    exact (congrArg₂ (fun (u : Fin 8) (l : Fin 16) => A u (ix1 l)) h0 h1).symm
  · have hx0 : (x 0).val < 8 := (x 0).isLt
    have hx1 : (x 1).val < 16 := (x 1).isLt
    refine ⟨_, List.mem_map.mpr ⟨x 0, ?_, rfl⟩, ?_⟩
    · generalize (x 0 : Fin 8) = u
      exact (by decide : ∀ u : Fin 8, u ∈ ([7, 6, 5, 4, 3, 2, 1, 0] : List (Fin 8))) u
    · rw [Rect.mem_set_unit]
      intro a
      match a with
      | ⟨0, _⟩ => exact ⟨le_refl _, Nat.lt_succ_self _⟩
      | ⟨1, _⟩ => exact ⟨Nat.zero_le _, by show (x 1).val < 0 + 16; omega⟩

end Cert.Proof.Scan
-- ==== Proof.TripIdeal.lean ====
/-
  One trip of a tile's inner loops: two columns of a buffer taken into the kept numbers and column numbers. The loop over the
  first buffer is run once, on any buffer; the loops over the other buffers, and the one after the last round, have the same
  body and follow from it.
-/
module

public import proofs.«01_k».proof.Defs
public import proofs.«01_k».proof.Proof.Scan
public import Idealize.ShloMosaic.Lib.SparseCore.Quiescent
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Cert.Proof.Scan

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The ghost state: the rounds of the semaphores and the counters of the transfers. -/
abbrev UH : Type := URounds (GSem nD τ sig) ℕ
abbrev UU : Type := UH × Counters
local notation "𝕄" => MT nD τ sig (HIx 1) (Elt F) ℕ UU ℕ
/-- No loop of the tile needs a variant of its own. -/
abbrev 𝒱₀ : Variants := Variants.none

variable (d : Dev nD) (L : grid0.Coords)

/-- The tile at `L`. -/
abbrev VT : Thread nD τ := SparseCore.V d ((L 0).castLE hcore0) ((L 1).castLE hsub0)

/-- A buffer of 328 columns. -/
abbrev Win : Type := Memref sig .scVector .vmem S328x128 .f32

/-- A trip of the first loop, on any buffer that holds the window's columns from `n0` on: the kept values move on by two columns. -/
theorem trip_run (a2 : Memref sig .scVector .hbm S100000x128 .f32) (h2 : a2.IsWhole) (a3 : Memref sig .scVector .hbm S32x8x16 .f32) (h3 : a3.IsWhole)
    (a4 : Memref sig .scVector .hbm S32x8x16 .i32) (h4 : a4.IsWhole) (b : Win) (hb : b.IsWhole) (b6 : Win) (h6 : b6.IsWhole) (b7 : Win) (h7 : b7.IsWhole)
    (a8 : Memref sig .scVector .vmem S8x16 .f32) (h8 : a8.IsWhole) (a9 : Memref sig .scVector .vmem S8x16 .i32) (h9 : a9.IsWhole)
    (s10 s11 s12 r0 r1 : DmaSems sig S_) (v2 c0 c1 : BitVec 32) (t1 : Fin k0_t1_loop.trips)
    (p0 p1 p2 p3 p4 p5 p6 p7 : FVec F S16 .f32) (q0 q1 q2 q3 q4 q5 q6 q7 : IVec S16 32) (base : BitVec 32) (k : Fin k0_t2_loop.trips) (w : ℕ) (X : ℕ → Fin 128 → F .f32) (n0 : ℕ)
    (f : BufTy.Contents (Elt F) b.view.ty) (st : Carry F) (E : Set ℕ)
    (hf : ∀ x : S328x128.Idx, b.view.read (Elt F) f x = X (n0 + (x 0).val) (x 1))
    (hbase : base = BitVec.ofNat 32 (w + n0)) (hst : st = kept X w (n0 + 2 * k.val)) :
    ((b.view.loc (VT d L) ↦[b.view.set]{fullShare} f : sProp 𝕄))
      ⊢ wp frame (wpE (defs₀ (F := F)) 𝒱₀ (VT d L) none) E
        (k0_t2_body L a2 h2 a3 h3 a4 h4 b hb b6 h6 b7 h7 a8 h8 a9 h9 s10 s11 s12 r0 r1 v2 c0 c1 t1 p0 p1 p2 p3 p4 p5 p6 p7 q0 q1 q2 q3 q4 q5 q6 q7
          base k st)
        (fun st' => iprop(⌜st' = kept X w (n0 + 2 * (k.val + 1))⌝ ∗ (b.view.loc (VT d L) ↦[b.view.set]{fullShare} f))) := by
  subst hst hbase
  unfold kept pack k0_t2_body
  simp only [k0_part1_eq_skeleton, k0_part2_eq_skeleton]
  iintro Hb
  sl_exec
  sl_step
  isplitr
  · ipureintro
    have hc0 : k0_pay1 (BitVec.ofNat 32 (w + n0)) 0#32 1#32 k = broadcast S16 (BitVec.ofNat 32 (w + (n0 + 2 * k.val))) :=
      congrArg (broadcast S16) (word_eq w n0 k.val 0)
    have hc1 : k0_pay34 (BitVec.ofNat 32 (w + n0)) (Scf.iv 0#32 1#32 k.val) = broadcast S16 (BitVec.ofNat 32 (w + (n0 + 2 * k.val + 1))) :=
      congrArg (broadcast S16) (word_eq w n0 k.val 1)
    -- the two loads of each of the eight vectors, then the two steps of the fold
    have ld := fun (u : Fin 8) (off : Fin 2 → ℕ) (r : Fin 2) (h : off = ![2 * k.val + r.val, 16 * u.val]) (inb : ∀ a, off a + S1x16.size a ≤ S328x128.size a) =>
      load_eq b.view f hf h inb shapeCasts_S1x16_S16
    refine Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ ?_))))))))))))))
    · exact two_V (ld 0 _ 0 (k0_off3_eq k 0) _) (ld 0 _ 1 (k0_off3_eq k 1) _)
    · exact two_V (ld 1 _ 0 (k0_off4_eq k 0) _) (ld 1 _ 1 (k0_off4_eq k 1) _)
    · exact two_V (ld 2 _ 0 (k0_off5_eq k 0) _) (ld 2 _ 1 (k0_off5_eq k 1) _)
    · exact two_V (ld 3 _ 0 (k0_off6_eq k 0) _) (ld 3 _ 1 (k0_off6_eq k 1) _)
    · exact two_V (ld 4 _ 0 (k0_off7_eq k 0) _) (ld 4 _ 1 (k0_off7_eq k 1) _)
    · exact two_V (ld 5 _ 0 (k0_off8_eq k 0) _) (ld 5 _ 1 (k0_off8_eq k 1) _)
    · exact two_V (ld 6 _ 0 (k0_off9_eq k 0) _) (ld 6 _ 1 (k0_off9_eq k 1) _)
    · exact two_V (ld 7 _ 0 (k0_off10_eq k 0) _) (ld 7 _ 1 (k0_off10_eq k 1) _)
    · exact two_C (ld 0 _ 0 (k0_off3_eq k 0) _) (ld 0 _ 1 (k0_off3_eq k 1) _) hc0 hc1
    · exact two_C (ld 1 _ 0 (k0_off4_eq k 0) _) (ld 1 _ 1 (k0_off4_eq k 1) _) hc0 hc1
    · exact two_C (ld 2 _ 0 (k0_off5_eq k 0) _) (ld 2 _ 1 (k0_off5_eq k 1) _) hc0 hc1
    · exact two_C (ld 3 _ 0 (k0_off6_eq k 0) _) (ld 3 _ 1 (k0_off6_eq k 1) _) hc0 hc1
    · exact two_C (ld 4 _ 0 (k0_off7_eq k 0) _) (ld 4 _ 1 (k0_off7_eq k 1) _) hc0 hc1
    · exact two_C (ld 5 _ 0 (k0_off8_eq k 0) _) (ld 5 _ 1 (k0_off8_eq k 1) _) hc0 hc1
    · exact two_C (ld 6 _ 0 (k0_off9_eq k 0) _) (ld 6 _ 1 (k0_off9_eq k 1) _) hc0 hc1
    · exact two_C (ld 7 _ 0 (k0_off10_eq k 0) _) (ld 7 _ 1 (k0_off10_eq k 1) _) hc0 hc1
  · iexact Hb

/-! ## The other three loops' trips are the same trip on another buffer -/

/-- The first round of the outer loop. -/
abbrev t0 : Fin k0_t1_loop.trips := ⟨0, by decide⟩

section Same
variable (a2 : Memref sig .scVector .hbm S100000x128 .f32) (h2 : a2.IsWhole) (a3 : Memref sig .scVector .hbm S32x8x16 .f32) (h3 : a3.IsWhole)
    (a4 : Memref sig .scVector .hbm S32x8x16 .i32) (h4 : a4.IsWhole) (b5 : Win) (h5 : b5.IsWhole) (b6 : Win) (h6 : b6.IsWhole) (b7 : Win) (h7 : b7.IsWhole)
    (a8 : Memref sig .scVector .vmem S8x16 .f32) (h8 : a8.IsWhole) (a9 : Memref sig .scVector .vmem S8x16 .i32) (h9 : a9.IsWhole)
    (s10 s11 s12 r0 r1 : DmaSems sig S_) (v2 c0 c1 : BitVec 32) (t1 : Fin k0_t1_loop.trips)
    (p0 p1 p2 p3 p4 p5 p6 p7 : FVec F S16 .f32) (q0 q1 q2 q3 q4 q5 q6 q7 : IVec S16 32) (base : BitVec 32)

set_option maxRecDepth 65536 in
theorem t3_same : k0_t3_body (F := F) L a2 h2 a3 h3 a4 h4 b5 h5 b6 h6 b7 h7 a8 h8 a9 h9 s10 s11 s12 r0 r1 v2 c0 c1 t1 p0 p1 p2 p3 p4 p5 p6 p7 q0 q1 q2 q3 q4 q5 q6 q7 base
    = k0_t2_body L a2 h2 a3 h3 a4 h4 b6 h6 b6 h6 b7 h7 a8 h8 a9 h9 s10 s11 s12 r0 r1 v2 c0 c1 t1 p0 p1 p2 p3 p4 p5 p6 p7 q0 q1 q2 q3 q4 q5 q6 q7 base := rfl
set_option maxRecDepth 65536 in
theorem t4_same : k0_t4_body (F := F) L a2 h2 a3 h3 a4 h4 b5 h5 b6 h6 b7 h7 a8 h8 a9 h9 s10 s11 s12 r0 r1 base
    = k0_t2_body L a2 h2 a3 h3 a4 h4 b7 h7 b6 h6 b7 h7 a8 h8 a9 h9 s10 s11 s12 r0 r1 v2 c0 c1 t1 p0 p1 p2 p3 p4 p5 p6 p7 q0 q1 q2 q3 q4 q5 q6 q7 base := rfl
set_option maxRecDepth 65536 in
theorem t5_same : k0_t5_body (F := F) L a2 h2 a3 h3 a4 h4 b5 h5 b6 h6 b7 h7 a8 h8 a9 h9 s10 s11 s12 r0 r1 base
    = k0_t2_body L a2 h2 a3 h3 a4 h4 b5 h5 b6 h6 b7 h7 a8 h8 a9 h9 s10 s11 s12 r0 r1 v2 c0 c1 t1 p0 p1 p2 p3 p4 p5 p6 p7 q0 q1 q2 q3 q4 q5 q6 q7 base := rfl

/-- A buffer of 328 columns, of which `2 * k` are scanned after the first `n0` of the window. -/
def scanned (w : ℕ) (b : Win) (X : ℕ → Fin 128 → F .f32) (n0 : ℕ) (f : Buf (Elt F) (b.view.loc (VT d L))) (k : ℕ) (acc : Carry F) : sProp 𝕄 :=
  iprop(⌜acc = kept X w (n0 + 2 * k)⌝ ∗ (b.view.loc (VT d L) ↦[b.view.set]{fullShare} f))

variable (w : ℕ) (X : ℕ → Fin 128 → F .f32) (n0 : ℕ) (hbase : base = BitVec.ofNat 32 (w + n0)) (st : Carry F)
include hbase

/-- A trip of the loop over the first buffer, as a step of its invariant. -/
theorem scan2 (f : BufTy.Contents (Elt F) b5.view.ty) (hf : ∀ x : S328x128.Idx, b5.view.read (Elt F) f x = X (n0 + (x 0).val) (x 1)) (k : Fin k0_t2_loop.trips) :
    (scanned d L w b5 X n0 f k.val st : sProp 𝕄)
      ⊢ wp frame (wpE (defs₀ (F := F)) 𝒱₀ (VT d L) none) Set.univ
        (k0_t2_body L a2 h2 a3 h3 a4 h4 b5 h5 b6 h6 b7 h7 a8 h8 a9 h9 s10 s11 s12 r0 r1 v2 c0 c1 t1 p0 p1 p2 p3 p4 p5 p6 p7 q0 q1 q2 q3 q4 q5 q6 q7 base k st)
        (scanned d L w b5 X n0 f (k.val + 1)) := by
  unfold scanned
  iintro ⟨%hst, Hb⟩
  iapply (trip_run d L a2 h2 a3 h3 a4 h4 b5 h5 b6 h6 b7 h7 a8 h8 a9 h9 s10 s11 s12 r0 r1 v2 c0 c1 t1 p0 p1 p2 p3 p4 p5 p6 p7 q0 q1 q2 q3 q4 q5 q6 q7 base k w X n0 f st _
    hf hbase hst)
  iexact Hb

/-- A trip of the loop over the second buffer. -/
theorem scan3 (f : BufTy.Contents (Elt F) b6.view.ty) (hf : ∀ x : S328x128.Idx, b6.view.read (Elt F) f x = X (n0 + (x 0).val) (x 1)) (k : Fin k0_t2_loop.trips) :
    (scanned d L w b6 X n0 f k.val st : sProp 𝕄)
      ⊢ wp frame (wpE (defs₀ (F := F)) 𝒱₀ (VT d L) none) Set.univ
        (k0_t3_body L a2 h2 a3 h3 a4 h4 b5 h5 b6 h6 b7 h7 a8 h8 a9 h9 s10 s11 s12 r0 r1 v2 c0 c1 t1 p0 p1 p2 p3 p4 p5 p6 p7 q0 q1 q2 q3 q4 q5 q6 q7 base k st)
        (scanned d L w b6 X n0 f (k.val + 1)) := by
  rw [t3_same]
  exact scan2 d L a2 h2 a3 h3 a4 h4 b6 h6 b6 h6 b7 h7 a8 h8 a9 h9 s10 s11 s12 r0 r1 v2 c0 c1 t1 p0 p1 p2 p3 p4 p5 p6 p7 q0 q1 q2 q3 q4 q5 q6 q7 base w X n0 hbase st f hf k

/-- A trip of the loop over the third buffer. -/
theorem scan4 (f : BufTy.Contents (Elt F) b7.view.ty) (hf : ∀ x : S328x128.Idx, b7.view.read (Elt F) f x = X (n0 + (x 0).val) (x 1)) (k : Fin k0_t2_loop.trips) :
    (scanned d L w b7 X n0 f k.val st : sProp 𝕄)
      ⊢ wp frame (wpE (defs₀ (F := F)) 𝒱₀ (VT d L) none) Set.univ
        (k0_t4_body L a2 h2 a3 h3 a4 h4 b5 h5 b6 h6 b7 h7 a8 h8 a9 h9 s10 s11 s12 r0 r1 base k st)
        (scanned d L w b7 X n0 f (k.val + 1)) := by
  rw [t4_same L a2 h2 a3 h3 a4 h4 b5 h5 b6 h6 b7 h7 a8 h8 a9 h9 s10 s11 s12 r0 r1 0#32 0#32 0#32 t0 st.1 st.1 st.1 st.1 st.1 st.1 st.1 st.1 (accC X w 0 0) (accC X w 0 0) (accC X w 0 0)
    (accC X w 0 0) (accC X w 0 0) (accC X w 0 0) (accC X w 0 0) (accC X w 0 0)]
  exact scan2 d L a2 h2 a3 h3 a4 h4 b7 h7 b6 h6 b7 h7 a8 h8 a9 h9 s10 s11 s12 r0 r1 _ _ _ _ _ _ _ _ _ _ _ _ _ _ _ _ _ _ _ _ base w X n0 hbase st f hf k

/-- A trip of the loop after the last round, over the first buffer again. -/
theorem scan5 (f : BufTy.Contents (Elt F) b5.view.ty) (hf : ∀ x : S328x128.Idx, b5.view.read (Elt F) f x = X (n0 + (x 0).val) (x 1)) (k : Fin k0_t2_loop.trips) :
    (scanned d L w b5 X n0 f k.val st : sProp 𝕄)
      ⊢ wp frame (wpE (defs₀ (F := F)) 𝒱₀ (VT d L) none) Set.univ
        (k0_t5_body L a2 h2 a3 h3 a4 h4 b5 h5 b6 h6 b7 h7 a8 h8 a9 h9 s10 s11 s12 r0 r1 base k st)
        (scanned d L w b5 X n0 f (k.val + 1)) := by
  rw [t5_same L a2 h2 a3 h3 a4 h4 b5 h5 b6 h6 b7 h7 a8 h8 a9 h9 s10 s11 s12 r0 r1 0#32 0#32 0#32 t0 st.1 st.1 st.1 st.1 st.1 st.1 st.1 st.1 (accC X w 0 0) (accC X w 0 0) (accC X w 0 0)
    (accC X w 0 0) (accC X w 0 0) (accC X w 0 0) (accC X w 0 0) (accC X w 0 0)]
  exact scan2 d L a2 h2 a3 h3 a4 h4 b5 h5 b6 h6 b7 h7 a8 h8 a9 h9 s10 s11 s12 r0 r1 _ _ _ _ _ _ _ _ _ _ _ _ _ _ _ _ _ _ _ _ base w X n0 hbase st f hf k

end Same

end Cert.Proof.KernelIdeal
-- ==== Proof.TileIdeal.lean ====
/-
  A tile's whole task. Three copies are on their way when the loop over rounds begins; in each round a tile waits for a
  buffer, scans it, and starts the copy of the block three further on, as long as one is left. One block is left after the
  three rounds. Then the kept values are stored and copied out to the tile's row of the two outputs.
-/
module

public import proofs.«01_k».proof.Proof.TripIdeal

@[expose] public section

noncomputable section

namespace Cert.Proof.KernelIdeal

open Cert.KernelIdeal Cert.KernelIdeal.Gen
open Cert.Proof.Scan

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole main_v0_scv : Memref sig Kind.scVector Space.hbm S100000x128 EltTy.f32)
local notation "oV" => (Memref.whole main_v1_0_scv : Memref sig Kind.scVector Space.hbm S32x8x16 EltTy.f32)
local notation "cV" => (Memref.whole main_v1_1_scv : Memref sig Kind.scVector Space.hbm S32x8x16 EltTy.i32)
local notation "sA" => (Memref.whole cc0_scratch0 : Memref sig Kind.scVector Space.vmem S328x128 EltTy.f32)
local notation "sB" => (Memref.whole cc0_scratch1 : Memref sig Kind.scVector Space.vmem S328x128 EltTy.f32)
local notation "sC" => (Memref.whole cc0_scratch2 : Memref sig Kind.scVector Space.vmem S328x128 EltTy.f32)
local notation "sV" => (Memref.whole cc0_scratch3 : Memref sig Kind.scVector Space.vmem S8x16 EltTy.f32)
local notation "sI" => (Memref.whole cc0_scratch4 : Memref sig Kind.scVector Space.vmem S8x16 EltTy.i32)

variable (d : Dev nD) (L : grid0.Coords)

/-- The five cells the tile's copies signal. -/
abbrev csem (n : Fin 5) : DmaSem sig := ⟨n.val, n.isLt⟩

/-- Those cells, each at zero. -/
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0)

/-- The tile's row of the first output. -/
abbrev oRow (L : grid0.Coords) : Memref sig .scVector .hbm S8x16 .f32 :=
  ((oV).slice (Rect.unit (s := S32x8x16) (k0_off38 L) S1x8x16.size (k0_off38_inb L)) (fun _ => rfl)).squeeze S8x16 squeezes_S1x8x16_S8x16
/-- The tile's row of the second output. -/
abbrev cRow (L : grid0.Coords) : Memref sig .scVector .hbm S8x16 .i32 :=
  ((cV).slice (Rect.unit (s := S32x8x16) (k0_off38 L) S1x8x16.size (k0_off38_inb L)) (fun _ => rfl)).squeeze S8x16 squeezes_S1x8x16_S8x16

/-- The first column of the tile's window. -/
abbrev wstart (L : grid0.Coords) : ℕ := 6240 * (L 1).val + 3120 * (L 0).val

theorem wstart_le : wstart L ≤ 96720 := by
  have h0 : (L 0).val < 2 := (L 0).isLt
  have h1 : (L 1).val < 16 := (L 1).isLt
  unfold wstart; omega

/-- The window's columns, out of the table. -/
abbrev cols (T : S100000x128.Idx → F .f32) : ℕ → Fin 128 → F .f32 := colsAt T (wstart L)

/-- A block of 328 columns of the table. -/
abbrev srcK (off : Fin 2 → ℕ) (inb : ∀ a, off a + S328x128.size a ≤ S100000x128.size a) : Memref sig .scVector .hbm S328x128 .f32 :=
  (xV).slice (Rect.unit (s := S100000x128) off S328x128.size inb) (fun _ => rfl)

/-- The block of the window from column `m` on, on its way into the buffer `b`. -/
def coming (q : PosShare TreeShare) (T : S100000x128.Idx → F .f32) (n : ℕ) (c : DmaSem sig) (b : Win) (m : ℕ) : sProp 𝕄 :=
  iprop(∃ (off : Fin 2 → ℕ) (inb : ∀ a, off a + S328x128.size a ≤ S100000x128.size a) (g : Buf (Elt F) (b.view.loc (VT d L))),
    ⌜∀ x : S328x128.Idx, b.view.read (Elt F) g x = cols L T (m + (x 0).val) (x 1)⌝
    ∗ Transfers.Flight countersEmb (VT d L) (SemLoc.dma c) (default : HIx 1) 1343488
        iprop((b.view.loc (VT d L) ↦[b.view.set]{fullShare} g)
          ∗ ((xV).view.loc (VT d L) ↦[(srcK off inb).view.set]{Transfers.shareTokN q n} T))
    ∗ ((xV).view.loc (VT d L) ↦[Finset.univ \ (srcK off inb).view.set]{Transfers.shareTokN q n} T))

/-- The buffer `b` at rest: nothing comes into it, and its read share of the table is whole. -/
def resting (q : PosShare TreeShare) (T : S100000x128.Idx → F .f32) (n : ℕ) (c : DmaSem sig) (b : Win) : sProp 𝕄 :=
  iprop((∃ g, b.view.loc (VT d L) ↦[b.view.set]{fullShare} g) ∗ semVal (VT d L, SemLoc.dma c) 0
    ∗ ((xV).view.loc (VT d L) ↦{Transfers.shareTokN q n} T))

/-- A block on its way where `p` holds, the buffer at rest where it does not. -/
def coming? (p : Prop) [Decidable p] (q : PosShare TreeShare) (T : S100000x128.Idx → F .f32) (n : ℕ) (c : DmaSem sig) (b : Win) (m : ℕ) : sProp 𝕄 :=
  if p then coming d L q T n c b m else resting d L q T n c b

/-- What the tile owes and has waited for. -/
def settled (O : CellTallies nD τ sig (HIx 1)) (W : Waits sig (HIx 1)) : sProp 𝕄 :=
  iprop(∃ W' : Waits sig (HIx 1), ⌜∀ p ∈ W', p ∈ W ∨ p.2 = none⌝ ∗ owes (VT d L) O W')

/-- The loop over rounds, `j` of them done: the kept values, and for each buffer the block on its way into it. -/
def rounds (O : CellTallies nD τ sig (HIx 1)) (W : Waits sig (HIx 1)) (q : PosShare TreeShare) (T : S100000x128.Idx → F .f32) (j : ℕ) (acc : Carry F) : sProp 𝕄 :=
  iprop(⌜acc = kept (cols L T) (wstart L) (984 * j)⌝ ∗ Transfers.MayWaits (VT d L) (default : HIx 1) O
    ∗ coming d L q T 0 (csem 0) sA (984 * j) ∗ coming? d L (j < 3) q T 1 (csem 1) sB (984 * j + 328) ∗ coming? d L (j < 3) q T 2 (csem 2) sC (984 * j + 656)
    ∗ settled d L O W)

omit [FloatOps F] in
theorem base_eq (w : ℕ) (j : ℕ) (e : ℕ) :
    Scalar.addi (BitVec.ofNat 32 w) (Scalar.muli (Scalar.addi (Scalar.muli (Scf.iv 0#32 1#32 j) 3#32) (BitVec.ofNat 32 e)) 328#32)
      = BitVec.ofNat 32 (w + (984 * j + 328 * e)) := by
  unfold Scalar.addi Scalar.muli IntOp.addi IntOp.muli Scf.iv
  apply BitVec.eq_of_toNat_eq
  simp only [BitVec.toNat_add, BitVec.toNat_mul, BitVec.toNat_ofNat]
  omega

/-- What a copy of the block from column `m` on leaves in a buffer reads as the window's columns from `m` on. -/
theorem landed (b : Win) (T : S100000x128.Idx → F .f32) (m : ℕ) {off : Fin 2 → ℕ} (inb : ∀ a, off a + S328x128.size a ≤ S100000x128.size a)
    (hoff : off = ![wstart L + m, 0]) (g : BufTy.Contents (Elt F) b.view.ty) (x : S328x128.Idx) :
    b.view.read (Elt F) (b.view.writes (Elt F) g [⟨Rect.whole S328x128, (srcK off inb).view.read (Elt F) T⟩]) x = cols L T (m + (x 0).val) (x 1) := by
  subst hoff
  have hx : (x 0).val < 328 := (x 0).isLt
  have hb : wstart L + m + 328 ≤ 100000 := inb 0
  rw [View.read_writes_whole]
  unfold cols colsAt
  show T _ = T _
  congr 1
  funext a
  match a with
  | ⟨0, _⟩ =>
    apply Fin.ext
    show wstart L + m + 1 * (x 0).val = (wstart L + (m + (x 0).val)) % 100000
    rw [Nat.mod_eq_of_lt (by omega)]; omega
  | ⟨1, _⟩ =>
    apply Fin.ext
    show 0 + 1 * (x 1).val = (x 1).val
    omega

/-- A copy just started of the block from column `m` on. -/
theorem coming_intro (q : PosShare TreeShare) (T : S100000x128.Idx → F .f32) (n : ℕ) (c : DmaSem sig) (b : Win) (m : ℕ) {off : Fin 2 → ℕ}
    (inb : ∀ a, off a + S328x128.size a ≤ S100000x128.size a) (hoff : off = ![wstart L + m, 0]) (g : Buf (Elt F) (b.view.loc (VT d L))) :
    (iprop(Transfers.Flight countersEmb (VT d L) (SemLoc.dma c) (default : HIx 1) 1343488
        iprop((b.view.loc (VT d L) ↦[b.view.set]{fullShare} b.view.writes (Elt F) g [⟨Rect.whole S328x128, (srcK off inb).view.read (Elt F) T⟩])
          ∗ ((xV).view.loc (VT d L) ↦[(srcK off inb).view.set]{Transfers.shareTokN q n} T))
      ∗ ((xV).view.loc (VT d L) ↦[Finset.univ \ (srcK off inb).view.set]{Transfers.shareTokN q n} T)) : sProp 𝕄)
      ⊢ coming d L q T n c b m := by
  unfold coming
  iintro ⟨Hf, Hx⟩
  iexists off, inb, _
  isplitr
  · ipureintro; exact landed L b T m inb hoff g
  isplitl [Hf]; · iexact Hf
  iexact Hx

/-- The loop's three branches: the first is always taken, the other two in every round but the last. -/
theorem conds : ∀ j : Fin k0_t1_loop.trips, k0_cond1 j = 1#1 ∧ (j.val < 2 → k0_cond2 j = 1#1 ∧ k0_cond3 j = 1#1)
    ∧ (2 ≤ j.val → ¬ k0_cond2 j = 1#1 ∧ ¬ k0_cond3 j = 1#1) := by decide

theorem waits_insert {W W' : Waits sig (HIx 1)} (c : DmaSem sig) (h : ∀ p ∈ W', p ∈ W ∨ p.2 = none) :
    ∀ p ∈ insert (SemLoc.dma c, (default : HIx 1)) W', p ∈ W ∨ p.2 = none := by
  intro p hp
  rcases Finset.mem_insert.mp hp with hp | hp
  · exact .inr (hp ▸ rfl)
  · exact h p hp

/-- A round: each of the three buffers is waited for, scanned, and filled again if a block is left for it. -/
theorem round_run (O : CellTallies nD τ sig (HIx 1)) (W : Waits sig (HIx 1)) (q : PosShare TreeShare) (T : S100000x128.Idx → F .f32)
    (j : Fin k0_t1_loop.trips) (acc : Carry F) :
    (rounds d L O W q T j.val acc : sProp 𝕄)
      ⊢ wp frame (wpE (defs₀ (F := F)) 𝒱₀ (VT d L) none) Set.univ
          (k0_t1_body L xV (Memref.isWhole_whole _) oV (Memref.isWhole_whole _) cV (Memref.isWhole_whole _)
            sA (Memref.isWhole_whole _) sB (Memref.isWhole_whole _) sC (Memref.isWhole_whole _) sV (Memref.isWhole_whole _) sI (Memref.isWhole_whole _)
            cc0_scratch5 cc0_scratch6 cc0_scratch7 cc0_scoped0 cc0_scoped1 (BitVec.ofNat 32 (wstart L)) j acc)
          (rounds d L O W q T (j.val + 1)) := by
  have hj : j.val < 3 := j.isLt
  have k0_h1 : k0_cond1 j = 1#1 := (conds j).1
  generalize hQ : rounds d L O W q T (j.val + 1) = Q
  unfold rounds coming? k0_t1_body
  rw [if_pos hj, if_pos hj]
  unfold coming settled
  rw [k0_part7_eq_skeleton]
  iintro ⟨%hacc, #Hmw, ⟨%offA, %inA, %gA, %hA, HfA, HxA⟩, ⟨%offB, %inB, %gB, %hB, HfB, HxB⟩, ⟨%offC, %inC, %gC, %hC, HfC, HxC⟩, %W', %hW', HO⟩
  sl_exec
  -- the first block
  sl_for (scanned d L (wstart L) sA (cols L T) (984 * j.val) gA) $$ [HfA_dst]
  case region => exact fun k st => scan2 d L xV _ oV _ cV _ sA _ sB _ sC _ sV _ sI _ _ _ _ _ _ _ _ _ _ _ _ _ _ _ _ _ _ _ _ _ _ _ _ _ _ _ (wstart L) (cols L T) (984 * j.val) (base_eq (wstart L) j 0) st gA hA k
  · unfold scanned
    isplitr
    · ipureintro; exact hacc
    · iexact HfA_dst
  iintro %st1 Hs
  unfold scanned
  icases Hs with ⟨%hst1, HA⟩
  sl_exec
  -- the second
  sl_for (scanned d L (wstart L) sB (cols L T) (984 * j.val + 328) gB) $$ [HfB_dst]
  case region => exact fun k st => scan3 d L xV _ oV _ cV _ sA _ sB _ sC _ sV _ sI _ _ _ _ _ _ _ _ _ _ _ _ _ _ _ _ _ _ _ _ _ _ _ _ _ _ _ (wstart L) (cols L T) (984 * j.val + 328) (base_eq (wstart L) j 1) st gB hB k
  · unfold scanned
    isplitr
    · ipureintro; exact hst1
    · iexact HfB_dst
  iintro %st2 Hs
  unfold scanned
  icases Hs with ⟨%hst2, HB⟩
  -- the third; whether the second and third buffers are filled again is decided here
  rcases Nat.lt_or_ge j.val 2 with hj2 | hj2
  · have k0_h2 : k0_cond2 j = 1#1 := ((conds j).2.1 hj2).1
    have k0_h3 : k0_cond3 j = 1#1 := ((conds j).2.1 hj2).2
    sl_exec
    sl_for (scanned d L (wstart L) sC (cols L T) (984 * j.val + 656) gC) $$ [HfC_dst]
    case region => exact fun k st => scan4 d L xV _ oV _ cV _ sA _ sB _ sC _ sV _ sI _ _ _ _ _ _ _ (wstart L) (cols L T) (984 * j.val + 656) (base_eq (wstart L) j 2) st gC hC k
    · unfold scanned
      isplitr
      · ipureintro; exact hst2
      · iexact HfC_dst
    iintro %st3 Hs
    unfold scanned
    icases Hs with ⟨%hst3, HC⟩
    sl_exec
    sl_step
    rw [← hQ]
    unfold rounds coming? settled
    rw [if_pos (by omega), if_pos (by omega)]
    isplitr
    · ipureintro; exact hst3
    isplitr
    · iexact Hmw
    isplitl [HfA HxA]
    · iapply (coming_intro d L q T 0 (csem 0) sA (984 * (j.val + 1)) (k0_off11_inb L j k0_h1) (k0_off11_eq L j) gA)
      isplitl [HfA]; · iexact HfA
      iexact HxA
    isplitl [HfB HxB]
    · iapply (coming_intro d L q T 1 (csem 1) sB (984 * (j.val + 1) + 328) (k0_off20_inb L j k0_h2) (k0_off20_eq L j) gB)
      isplitl [HfB]; · iexact HfB
      iexact HxB
    isplitl [HfC HxC]
    · iapply (coming_intro d L q T 2 (csem 2) sC (984 * (j.val + 1) + 656) (k0_off29_inb L j k0_h3) (k0_off29_eq L j) gC)
      isplitl [HfC]; · iexact HfC
      iexact HxC
    iexists (insert (SemLoc.dma (csem 2), (default : HIx 1)) (insert (SemLoc.dma (csem 1), (default : HIx 1)) (insert (SemLoc.dma (csem 0), (default : HIx 1)) W')))
    isplitr
    · ipureintro; exact waits_insert _ (waits_insert _ (waits_insert _ hW'))
    · iexact HO
  · have k0_h2 : ¬ k0_cond2 j = 1#1 := ((conds j).2.2 hj2).1
    have k0_h3 : ¬ k0_cond3 j = 1#1 := ((conds j).2.2 hj2).2
    sl_exec
    sl_for (scanned d L (wstart L) sC (cols L T) (984 * j.val + 656) gC) $$ [HfC_dst]
    case region => exact fun k st => scan4 d L xV _ oV _ cV _ sA _ sB _ sC _ sV _ sI _ _ _ _ _ _ _ (wstart L) (cols L T) (984 * j.val + 656) (base_eq (wstart L) j 2) st gC hC k
    · unfold scanned
      isplitr
      · ipureintro; exact hst2
      · iexact HfC_dst
    iintro %st3 Hs
    unfold scanned
    icases Hs with ⟨%hst3, HC⟩
    sl_exec
    sl_step
    rw [← hQ]
    unfold rounds coming? settled resting
    rw [if_neg (by omega), if_neg (by omega)]
    isplitr
    · ipureintro; exact hst3
    isplitr
    · iexact Hmw
    isplitl [HfA HxA]
    · iapply (coming_intro d L q T 0 (csem 0) sA (984 * (j.val + 1)) (k0_off11_inb L j k0_h1) (k0_off11_eq L j) gA)
      isplitl [HfA]; · iexact HfA
      iexact HxA
    isplitl [HfB HxB HB]
    · isplitl [HB]; · iexists gB; iexact HB
      isplitl [HfB]; · iexact HfB
      iexact HxB
    isplitl [HfC HxC HC]
    · isplitl [HC]; · iexists gC; iexact HC
      isplitl [HfC]; · iexact HfC
      iexact HxC
    iexists (insert (SemLoc.dma (csem 2), (default : HIx 1)) (insert (SemLoc.dma (csem 1), (default : HIx 1)) (insert (SemLoc.dma (csem 0), (default : HIx 1)) W')))
    isplitr
    · ipureintro; exact waits_insert _ (waits_insert _ (waits_insert _ hW'))
    · iexact HO

theorem v2_eq : Scalar.muli (Scalar.addi (Scalar.muli (BitVec.ofNat 32 (L 1).val) 2#32) (BitVec.ofNat 32 (L 0).val)) 3120#32 = BitVec.ofNat 32 (wstart L) := by
  unfold Scalar.addi Scalar.muli IntOp.addi IntOp.muli wstart
  apply BitVec.eq_of_toNat_eq
  simp only [BitVec.toNat_add, BitVec.toNat_mul, BitVec.toNat_ofNat]
  omega

theorem last_eq : Scalar.addi (Scalar.muli (Scalar.addi (Scalar.muli (BitVec.ofNat 32 (L 1).val) 2#32) (BitVec.ofNat 32 (L 0).val)) 3120#32) 2952#32
    = BitVec.ofNat 32 (wstart L + 2952) := by
  rw [v2_eq]
  unfold Scalar.addi IntOp.addi
  apply BitVec.eq_of_toNat_eq
  simp only [BitVec.toNat_add, BitVec.toNat_ofNat]
  omega

/-- What the tiles leave in the first output: in row `r`, the numbers kept over window `r`. -/
def outV (T : S100000x128.Idx → F .f32) : S32x8x16.Idx → F .f32 := fun i => accV (colsAt T (3120 * (i 0).val)) 3280 (i 1) (ix1 (i 2))

/-- What the tiles leave in the second output: in row `r`, the column numbers kept over window `r`. -/
def outC (T : S100000x128.Idx → F .f32) : S32x8x16.Idx → BitVec 32 :=
  fun i => accC (colsAt T (3120 * (i 0).val)) (3120 * (i 0).val) 3280 (i 1) (ix1 (i 2))

theorem row_lt : 2 * (L 1).val + (L 0).val < 32 := by
  have h0 : (L 0).val < 2 := (L 0).isLt
  have h1 : (L 1).val < 16 := (L 1).isLt
  omega

/-- Where place `x` of the tile's output row lies in the output. -/
theorem row_emb (x : S8x16.Idx) :
    (Rect.unit (s := S32x8x16) (k0_off38 L) S1x8x16.size (k0_off38_inb L)).emb (Shape.reshapeEquiv squeezes_S1x8x16_S8x16.numel_eq x)
      = ix3 ⟨2 * (L 1).val + (L 0).val, row_lt L⟩ (x 0) (x 1) := by
  have hx : x = ix2 (x 0) (x 1) := by
    funext a
    match a with
    | ⟨0, _⟩ => rfl
    | ⟨1, _⟩ => rfl
  have e : Shape.reshapeEquiv squeezes_S1x8x16_S8x16.numel_eq x = ix3 (0 : Fin 1) (x 0) (x 1) :=
    (congrArg _ hx).trans (reshapeEquiv_ix2_1ab squeezes_S1x8x16_S8x16.numel_eq (x 0) (x 1))
  rw [e]
  have h := k0_off38_eq L
  funext a
  apply Fin.ext
  match a with
  | ⟨0, _⟩ =>
    show k0_off38 L 0 + 1 * 0 = _
    rw [h]; rfl
  | ⟨1, _⟩ =>
    show k0_off38 L 1 + 1 * (x 0).val = (x 0).val
    rw [h]; show 0 + 1 * (x 0).val = _; omega
  | ⟨2, _⟩ =>
    show k0_off38 L 2 + 1 * (x 1).val = (x 1).val
    rw [h]; show 0 + 1 * (x 1).val = _; omega

theorem wstart_row : 3120 * (2 * (L 1).val + (L 0).val) = wstart L := by unfold wstart; omega

/-- The tile's output row, once it reads as the kept numbers, is the row of `outV`. -/
theorem oRow_eq (T : S100000x128.Idx → F .f32) (f : BufTy.Contents (Elt F) (oRow L).view.ty)
    (h : ∀ x : S8x16.Idx, (oRow L).view.read (Elt F) f x = accV (cols L T) 3280 (x 0) (ix1 (x 1))) :
    ((oRow L).view.loc (VT d L) ↦[(oRow L).view.set]{fullShare} f : sProp 𝕄) = ((oRow L).view.loc (VT d L) ↦[(oRow L).view.set]{fullShare} outV T) := by
  refine pointsTo_congr fun i hi => ?_
  obtain ⟨x, -, rfl⟩ := Finset.mem_map.mp hi
  refine (h x).trans (Eq.trans ?_ (congrArg (outV T) (row_emb L x)).symm)
  unfold outV cols
  rw [← wstart_row L]

/-- The tile's second output row, once it reads as the kept column numbers, is the row of `outC`. -/
theorem cRow_eq (T : S100000x128.Idx → F .f32) (f : BufTy.Contents (Elt F) (cRow L).view.ty)
    (h : ∀ x : S8x16.Idx, (cRow L).view.read (Elt F) f x = accC (cols L T) (wstart L) 3280 (x 0) (ix1 (x 1))) :
    ((cRow L).view.loc (VT d L) ↦[(cRow L).view.set]{fullShare} f : sProp 𝕄) = ((cRow L).view.loc (VT d L) ↦[(cRow L).view.set]{fullShare} outC T) := by
  refine pointsTo_congr fun i hi => ?_
  obtain ⟨x, -, rfl⟩ := Finset.mem_map.mp hi
  refine (h x).trans (Eq.trans ?_ (congrArg (outC T) (row_emb L x)).symm)
  unfold outC cols
  rw [← wstart_row L]

/-- The task, from its cells at zero and its buffers at any contents to its rows written and its cells at zero again. -/
theorem tile_run (O : CellTallies nD τ sig (HIx 1)) (W : Waits sig (HIx 1)) (q : PosShare TreeShare)
    (T : S100000x128.Idx → F .f32)
    (fo : Buf (Elt F) ((oV).view.loc (VT d L))) (fc : Buf (Elt F) ((cV).view.loc (VT d L)))
    (gA : Buf (Elt F) ((sA).view.loc (VT d L))) (gB : Buf (Elt F) ((sB).view.loc (VT d L))) (gC : Buf (Elt F) ((sC).view.loc (VT d L)))
    (gV : Buf (Elt F) ((sV).view.loc (VT d L))) (gI : Buf (Elt F) ((sI).view.loc (VT d L))) :
    (iprop(Transfers.MayWaits (VT d L) (default : HIx 1) O
        ∗ ((xV).view.loc (VT d L) ↦{Transfers.shareTokN q 0} T)
        ∗ ((xV).view.loc (VT d L) ↦{Transfers.shareTokN q 1} T)
        ∗ ((xV).view.loc (VT d L) ↦{Transfers.shareTokN q 2} T)
        ∗ ((oRow L).view.loc (VT d L) ↦[(oRow L).view.set]{fullShare} fo)
        ∗ ((cRow L).view.loc (VT d L) ↦[(cRow L).view.set]{fullShare} fc)
        ∗ ((sA).view.loc (VT d L) ↦[(sA).view.set]{fullShare} gA)
        ∗ ((sB).view.loc (VT d L) ↦[(sB).view.set]{fullShare} gB)
        ∗ ((sC).view.loc (VT d L) ↦[(sC).view.set]{fullShare} gC)
        ∗ ((sV).view.loc (VT d L) ↦[(sV).view.set]{fullShare} gV)
        ∗ ((sI).view.loc (VT d L) ↦[(sI).view.set]{fullShare} gI)
        ∗ cells0 d L
        ∗ owes (VT d L) O W) : sProp 𝕄)
      ⊢ wp frame (wpE (defs₀ (F := F)) 𝒱₀ (VT d L) none) Set.univ
          (cc0__argmax_kernel L xV (Memref.isWhole_whole _) oV (Memref.isWhole_whole _) cV (Memref.isWhole_whole _)
            sA (Memref.isWhole_whole _) sB (Memref.isWhole_whole _) sC (Memref.isWhole_whole _) sV (Memref.isWhole_whole _) sI (Memref.isWhole_whole _)
            cc0_scratch5 cc0_scratch6 cc0_scratch7 cc0_scoped0 cc0_scoped1)
          fun _ => iprop(((xV).view.loc (VT d L) ↦{Transfers.shareTokN q 0} T)
            ∗ ((xV).view.loc (VT d L) ↦{Transfers.shareTokN q 1} T)
            ∗ ((xV).view.loc (VT d L) ↦{Transfers.shareTokN q 2} T)
            ∗ ((oRow L).view.loc (VT d L) ↦[(oRow L).view.set]{fullShare} outV T)
            ∗ ((cRow L).view.loc (VT d L) ↦[(cRow L).view.set]{fullShare} outC T)
            ∗ (∃ g, (sA).view.loc (VT d L) ↦[(sA).view.set]{fullShare} g)
            ∗ (∃ g, (sB).view.loc (VT d L) ↦[(sB).view.set]{fullShare} g)
            ∗ (∃ g, (sC).view.loc (VT d L) ↦[(sC).view.set]{fullShare} g)
            ∗ (∃ g, (sV).view.loc (VT d L) ↦[(sV).view.set]{fullShare} g)
            ∗ (∃ g, (sI).view.loc (VT d L) ↦[(sI).view.set]{fullShare} g)
            ∗ cells0 d L
            ∗ settled d L O W) := by
  iintro ⟨#Hmw, HX0, HX1, HX2, HO, HC, HA, HB, HCc, HV, HI, ⟨Hc0, Hc1, Hc2, Hc3, Hc4⟩, HOw⟩
  sl_unfold [cc0__argmax_kernel]
  sl_exec
  ihave HA : (coming d L q T 0 (csem 0) sA 0) $$ [Hc0 HX0]
  · iapply (coming_intro d L q T 0 (csem 0) sA 0 (off := k0_off1 L 0#32) (k0_off1_inb L 0) (k0_off1_eq L 0) gA)
    isplitl [Hc0]; · iexact Hc0
    iexact HX0
  ihave HB : (coming d L q T 1 (csem 1) sB 328) $$ [Hc1 HX1]
  · iapply (coming_intro d L q T 1 (csem 1) sB 328 (off := k0_off1 L 328#32) (k0_off1_inb L 1) (k0_off1_eq L 1) gB)
    isplitl [Hc1]; · iexact Hc1
    iexact HX1
  ihave HCc : (coming d L q T 2 (csem 2) sC 656) $$ [Hc2 HX2]
  · iapply (coming_intro d L q T 2 (csem 2) sC 656 (off := k0_off1 L 656#32) (k0_off1_inb L 2) (k0_off1_eq L 2) gC)
    isplitl [Hc2]; · iexact Hc2
    iexact HX2
  sl_for (rounds d L O W q T) $$ [HA HB HCc HOw]
  case region => exact fun j acc => (congrArg (fun v => _ ⊢ wp frame (wpE (defs₀ (F := F)) 𝒱₀ (VT d L) none) Set.univ
          (k0_t1_body L xV (Memref.isWhole_whole _) oV (Memref.isWhole_whole _) cV (Memref.isWhole_whole _)
            sA (Memref.isWhole_whole _) sB (Memref.isWhole_whole _) sC (Memref.isWhole_whole _) sV (Memref.isWhole_whole _) sI (Memref.isWhole_whole _)
            cc0_scratch5 cc0_scratch6 cc0_scratch7 cc0_scoped0 cc0_scoped1 v j acc)
          (rounds d L O W q T (j.val + 1))) (v2_eq L)).mpr (round_run d L O W q T j acc)
  · unfold rounds coming? settled
    rw [if_pos (by omega), if_pos (by omega)]
    isplitr
    · ipureintro; rfl
    isplitr
    · iexact Hmw
    isplitl [HA]; · iexact HA
    isplitl [HB]; · iexact HB
    isplitl [HCc]; · iexact HCc
    iexists W
    isplitr
    · ipureintro; exact fun p hp => .inl hp
    · iexact HOw
  iintro %st1 Hs
  unfold rounds coming? coming resting settled
  rw [if_neg (show ¬ Scf.trips k0_t1_loop.lb k0_t1_loop.ub k0_t1_loop.st < 3 by decide), if_neg (show ¬ Scf.trips k0_t1_loop.lb k0_t1_loop.ub k0_t1_loop.st < 3 by decide)]
  icases Hs with ⟨%hst1, -, ⟨%offA, %inA, %gA1, %hA, HfA, HxA⟩, ⟨⟨%gB1, HB⟩, HsB, HxB⟩, ⟨⟨%gC1, HC'⟩, HsC, HxC⟩, %W1, %hW1, HOw⟩
  sl_exec
  sl_for (scanned d L (wstart L) sA (cols L T) 2952 gA1) $$ [HfA_dst]
  case region => exact fun k st => scan5 d L xV _ oV _ cV _ sA _ sB _ sC _ sV _ sI _ _ _ _ _ _ _ (wstart L) (cols L T) 2952 (last_eq L) st gA1 hA k
  · unfold scanned
    isplitr
    · ipureintro; exact hst1
    · iexact HfA_dst
  iintro %st2 Hs
  unfold scanned
  icases Hs with ⟨%hst2, HA⟩
  sl_exec
  sl_step
  isplitl [HxA]; · iexact HxA
  isplitl [HxB]; · iexact HxB
  isplitl [HxC]; · iexact HxC
  isplitl [HO]
  · rw [← oRow_eq d L T _ (fun x => ?hv)]
    · iexact HO
    case hv =>
      rw [View.read_writes_whole]
      subst hst2
      exact read_rows (sV).view gV (accV (cols L T) 3280) (by decide) shapeCasts_S16_S1x16 x
  isplitl [HC]
  · rw [← cRow_eq d L T _ (fun x => ?hv)]
    · iexact HC
    case hv =>
      rw [View.read_writes_whole]
      subst hst2
      exact read_rows (sI).view gI (accC (cols L T) (wstart L) 3280) (by decide) shapeCasts_S16_S1x16 x
  isplitl [HA]; · iexists gA1; iexact HA
  isplitl [HB]; · iexists gB1; iexact HB
  isplitl [HC']; · iexists gC1; iexact HC'
  isplitl [HV]; · iexists _; iexact HV
  isplitl [HI]; · iexists _; iexact HI
  isplitl [HfA HsB HsC Hc3 Hc4]
  · isplitl [HfA]; · iexact HfA
    isplitl [HsB]; · iexact HsB
    isplitl [HsC]; · iexact HsC
    isplitl [Hc3]; · iexact Hc3
    iexact Hc4
  iexists (insert (SemLoc.dma (csem 4), (default : HIx 1)) (insert (SemLoc.dma (csem 3), (default : HIx 1)) (insert (SemLoc.dma (csem 0), (default : HIx 1)) W1)))
  isplitr
  · ipureintro; exact waits_insert _ (waits_insert _ (waits_insert _ hW1))
  · iexact HOw

end Cert.Proof.KernelIdeal
-- ==== Proof.LaunchIdeal.lean ====
/-
  The launch of the windowed argmax: each of the thirty-two subcores is handed a read share of the transposed table and its own row of the two
  result arrays, scans its window, and hands its row back at the window's maxima and their columns. Around the one call stand the host's operations:
  the transposition before it, and after it the joining of the thirty-two windows' answers.
-/
module

public import proofs.«01_k».proof.Proof.TileIdeal
public import Idealize.ShloMosaic.Lib.StableHlo.RunHlo
public import Idealize.ShloMosaic.Lib.Pipeline.Kit

@[expose] public section

noncomputable section

namespace Cert.Proof.KernelIdeal

open Cert.KernelIdeal Cert.KernelIdeal.Gen
open Cert.Proof.Scan

open Idealize.ShloMosaic Idealize.ShloMosaic.ValueIdx Idealize.ShloMosaic.StableHlo
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ
local notation "xV" => (Memref.whole main_v0_scv : Memref sig Kind.scVector Space.hbm S100000x128 EltTy.f32)
local notation "oV" => (Memref.whole main_v1_0_scv : Memref sig Kind.scVector Space.hbm S32x8x16 EltTy.f32)
local notation "cV" => (Memref.whole main_v1_1_scv : Memref sig Kind.scVector Space.hbm S32x8x16 EltTy.i32)
local notation "sA" => (Memref.whole cc0_scratch0 : Memref sig Kind.scVector Space.vmem S328x128 EltTy.f32)
local notation "sB" => (Memref.whole cc0_scratch1 : Memref sig Kind.scVector Space.vmem S328x128 EltTy.f32)
local notation "sC" => (Memref.whole cc0_scratch2 : Memref sig Kind.scVector Space.vmem S328x128 EltTy.f32)
local notation "sV" => (Memref.whole cc0_scratch3 : Memref sig Kind.scVector Space.vmem S8x16 EltTy.f32)
local notation "sI" => (Memref.whole cc0_scratch4 : Memref sig Kind.scVector Space.vmem S8x16 EltTy.i32)

abbrev EH : Emb UH (MT nD τ sig (HIx 1) (Elt F) ℕ UU ℕ) := embL

variable (m : (ℓ : Loc nD τ sig) → Buf (Elt F) ℓ) (ρ : Dev nD → PrngReg)

/-- The argument, the transposed table, the two result arrays of the call and the program's result, as locations of device `d`. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1_0
abbrev cLoc (d : Dev nD) : Loc nD τ sig := (SparseCore.T d).loc main_v1_1
abbrev rLoc (d : Dev nD) : Loc nD τ sig := (SparseCore.T d).loc main_v10

/-- The table the call reads: the argument, transposed. -/
def tab (d : Dev nD) : S100000x128.Idx → F .f32 :=
  transpose S100000x128 [1, 0] (show S128x100000.Idx → F .f32 from m (aLoc d)) transposes_S128x100000_S100000x128_1_0

/-! ## What one tile is handed -/

theorem hdiv : 32 ∣ S32x8x16.size 0 := ⟨1, rfl⟩
/-- Row `r` of a result array. -/
abbrev rowSet (r : Fin 32) : Finset S32x8x16.Idx := (Rect.part (s := S32x8x16) (a₀ := 0) hdiv r).set

/-- Tile `i` of core `c` works on row `2 * i + c`. -/
def tileRow : Fin 2 × Fin 16 ≃ Fin 32 where
  toFun p := ⟨2 * p.2.val + p.1.val, by omega⟩
  invFun r := (⟨r.val % 2, by omega⟩, ⟨r.val / 2, by omega⟩)
  left_inv p := by ext <;> simp <;> omega
  right_inv r := by ext; simp; omega

/-- A tile's part of the call's arrays: a read share of the table, and its row of each result array. -/
def piece (d : Dev nD) (X : S100000x128.Idx → F .f32) (fo : S32x8x16.Idx → F .f32) (fc : S32x8x16.Idx → BitVec 32) (r : Fin 32) : sProp 𝕄 :=
  iprop((xLoc d ↦{Transfers.shareTok fullShare 32 r} X) ∗ (oLoc d ↦[rowSet r]{fullShare} fo) ∗ (cLoc d ↦[rowSet r]{fullShare} fc))

instance piece_storable (d : Dev nD) (X : S100000x128.Idx → F .f32) (fo : S32x8x16.Idx → F .f32) (fc : S32x8x16.Idx → BitVec 32) (r : Fin 32) :
    BI.Storable (upEmb : UEmb _ 𝕄) (piece d X fo fc r) := by unfold piece; infer_instance

/-- The pieces before and after the call. -/
abbrev pre (d : Dev nD) : Fin 32 → sProp 𝕄 := piece d (tab m d) (m (oLoc d)) (m (cLoc d))
abbrev post (d : Dev nD) : Fin 32 → sProp 𝕄 := piece d (tab m d) (outV (tab m d)) (outC (tab m d))

/-- The call hands each core its sixteen tiles' pieces, each tile its own, and takes them back with the rows written. -/
def P : (K (F := F)).Pay (nD := nD) (Val := Elt F) (Name := ℕ) (U := UU) where
  st := fun q d c => match q with | 0 => bigSep Finset.univ fun i : Fin ((K (F := F)).nSub 0) => pre m d (tileRow (c, i))
  dn := fun q d c => match q with | 0 => bigSep Finset.univ fun i : Fin ((K (F := F)).nSub 0) => post m d (tileRow (c, i))
  go := fun q d c i => match q with | 0 => pre m d (tileRow (c, i))
  td := fun q d c i => match q with | 0 => post m d (tileRow (c, i))
  x := fun _ _ => iprop(emp)

instance P_storable : (P (F := F) m).IsStorable where
  st q d c := match q with
    | 0 => (inferInstance : BI.Storable (upEmb : UEmb _ 𝕄) (bigSep Finset.univ fun i : Fin ((K (F := F)).nSub 0) => pre m d (tileRow (c, i))))
  dn q d c := match q with
    | 0 => (inferInstance : BI.Storable (upEmb : UEmb _ 𝕄) (bigSep Finset.univ fun i : Fin ((K (F := F)).nSub 0) => post m d (tileRow (c, i))))
  go q d c i := match q with | 0 => (inferInstance : BI.Storable (upEmb : UEmb _ 𝕄) (pre m d (tileRow (c, i))))
  td q d c i := match q with | 0 => (inferInstance : BI.Storable (upEmb : UEmb _ 𝕄) (post m d (tileRow (c, i))))

/-! ## The task -/

section Tile

variable (d : Dev nD) (L : grid0.Coords)

/-- The row of the tile at `L`. -/
abbrev rowL (L : grid0.Coords) : Fin 32 := tileRow (L 0, L 1)

omit [FloatOps F] in
theorem rect_eq : Rect.unit (s := S32x8x16) (k0_off38 L) S1x8x16.size (k0_off38_inb L) = Rect.part (s := S32x8x16) (a₀ := 0) hdiv (rowL L) := by
  unfold Rect.part Rect.block
  congr 1 <;> funext a
  · rw [k0_off38_eq]
    match a with
    | 0 => simp [Shape.partIx, Shape.partSize]; rfl
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_oRow : (oRow L).view.set = rowSet (rowL L) := by
  show (((oV).view.slice (Rect.unit (s := S32x8x16) (k0_off38 L) S1x8x16.size (k0_off38_inb L))).reshape S8x16 squeezes_S1x8x16_S8x16.numel_eq).set = _
  rw [View.set_reshape]
  have h (r : Rect S32x8x16) : (((oV).view.slice r).set : Finset S32x8x16.Idx) = r.set := by rw [View.set_slice]; exact Finset.map_refl
  exact Eq.trans (b := ((Rect.unit (s := S32x8x16) (k0_off38 L) S1x8x16.size (k0_off38_inb L)).set : Finset S32x8x16.Idx)) (h _)
    (congrArg (fun r : Rect S32x8x16 => (r.set : Finset S32x8x16.Idx)) (rect_eq L))
omit [FloatOps F] in
theorem set_cRow : (cRow L).view.set = rowSet (rowL L) := by
  show (((cV).view.slice (Rect.unit (s := S32x8x16) (k0_off38 L) S1x8x16.size (k0_off38_inb L))).reshape S8x16 squeezes_S1x8x16_S8x16.numel_eq).set = _
  rw [View.set_reshape]
  have h (r : Rect S32x8x16) : (((cV).view.slice r).set : Finset S32x8x16.Idx) = r.set := by rw [View.set_slice]; exact Finset.map_refl
  exact Eq.trans (b := ((Rect.unit (s := S32x8x16) (k0_off38 L) S1x8x16.size (k0_off38_inb L)).set : Finset S32x8x16.Idx)) (h _)
    (congrArg (fun r : Rect S32x8x16 => (r.set : Finset S32x8x16.Idx)) (rect_eq L))

theorem pts_oRow (f : S32x8x16.Idx → F .f32) :
    ((oRow L).view.loc (VT d L) ↦[(oRow L).view.set]{fullShare} f : sProp 𝕄) = oLoc d ↦[rowSet (rowL L)]{fullShare} f := by
  rw [set_oRow]
theorem pts_cRow (f : S32x8x16.Idx → BitVec 32) :
    ((cRow L).view.loc (VT d L) ↦[(cRow L).view.set]{fullShare} f : sProp 𝕄) = cLoc d ↦[rowSet (rowL L)]{fullShare} f := by
  rw [set_cRow]

/-- The read share of the table as three tokens, one per transfer in flight, and what stays. -/
theorem threeTokens (q : PosShare TreeShare) (X : Buf (Elt F) (xLoc d)) :
    (xLoc d ↦{q} X : sProp 𝕄) ⊣⊢ iprop((xLoc d ↦{Transfers.shareDrop q 3} X) ∗ (xLoc d ↦{Transfers.shareTokN q 0} X)
      ∗ (xLoc d ↦{Transfers.shareTokN q 1} X) ∗ (xLoc d ↦{Transfers.shareTokN q 2} X)) := by
  have h : (xLoc d ↦{q} X : sProp 𝕄) ⊣⊢ iprop((xLoc d ↦{Transfers.shareDrop q 3} X) ∗ bigSep (Finset.range 3) fun i => xLoc d ↦{Transfers.shareTokN q i} X) :=
    Transfers.pointsTo_toks_range (ℓ := xLoc d) (S := Finset.univ) (f := X) q 3
  rw [show Finset.range 3 = {0, 1, 2} by decide, SparseCore.bigSep_insert' (by decide), SparseCore.bigSep_insert' (by decide), bigSep_singleton] at h
  exact h

/-- Cell `k` of the tile at `L`. -/
abbrev cell (k : Fin 5) : GSem nD τ sig := (VT d L, .dma (csem k))
/-- Scratch buffer `k`. -/
def scratch : Fin 5 → Ref sig .scVector := ![cc0_scratch0, cc0_scratch1, cc0_scratch2, cc0_scratch3, cc0_scratch4]
/-- The same, as the device's buffer. -/
abbrev scratchBuf (k : Fin 5) : DevRef τ sig := (Proc.scVector ((L 0).castLE hcore0) ((L 1).castLE hsub0)).devRef (scratch k)

omit [FloatOps F] in
theorem cell_mem (k : Fin 5) : cell d L k ∈ ownCells (VT d L) :=
  mem_ownCells.mpr ⟨rfl, (show ∀ s : DmaSem sig, (SemLoc.dma s : SemLoc sig).isScoped .scVector = true by decide) _⟩

omit [FloatOps F] in
theorem scratch_mem (k : Fin 5) : scratchBuf L k ∈ ownRefs (τ := τ) (sig := sig) (.scVector ((L 0).castLE hcore0) ((L 1).castLE hsub0)) :=
  SparseCore.Cfg.mem_ownRefs_of_owner (match k with | 0 => rfl | 1 => rfl | 2 => rfl | 3 => rfl | 4 => rfl)

/-- Five things of a family, one by one. -/
theorem five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]

/-- The tile's own counters at zero: the five the body names, and the rest. -/
theorem ownSems0_V :
    (ownSems0 (VT d L) : sProp 𝕄)
      = iprop(cells0 d L ∗ bigSep ((ownCells (VT d L)) \ Finset.univ.image (cell d L)) fun g => semVal g 0) := by
  unfold SparseCore.Cfg.ownSems0
  rw [SparseCore.bigSep_sdiff_split' (t := Finset.univ.image (cell d L)) (Finset.image_subset_iff.mpr fun k _ => cell_mem d L k),
    SparseCore.bigSep_image_of_injOn (fun a _ b _ h => by
      have := congrArg (fun g : GSem nD τ sig => g.2) h
      simp only [SemLoc.dma.injEq, Fin.mk.injEq] at this; exact Fin.ext this), five]

/-- The tile's own buffers: the five scratches, each at some contents, and the rest. -/
theorem ownBufs_V :
    (ownBufs (VT d L) : sProp 𝕄)
      = iprop(((∃ g, (sA).view.loc (VT d L) ↦[(sA).view.set]{fullShare} g) ∗ (∃ g, (sB).view.loc (VT d L) ↦[(sB).view.set]{fullShare} g)
          ∗ (∃ g, (sC).view.loc (VT d L) ↦[(sC).view.set]{fullShare} g) ∗ (∃ g, (sV).view.loc (VT d L) ↦[(sV).view.set]{fullShare} g)
          ∗ (∃ g, (sI).view.loc (VT d L) ↦[(sI).view.set]{fullShare} g))
        ∗ bigSep ((ownRefs (τ := τ) (.scVector ((L 0).castLE hcore0) ((L 1).castLE hsub0))) \ Finset.univ.image (scratchBuf L))
            fun b => iprop(∃ f, ((d, b) : Loc nD τ sig) ↦{fullShare} f)) := by
  unfold SparseCore.Cfg.ownBufs
  rw [SparseCore.bigSep_sdiff_split' (t := Finset.univ.image (scratchBuf L)) (Finset.image_subset_iff.mpr fun k _ => scratch_mem L k),
    SparseCore.bigSep_image_of_injOn (fun a _ b _ h =>
      (show ∀ a b : Fin 5, scratch a = scratch b → a = b by decide) a b (Proc.devRef_injective _ h)), five]
  simp only [View.set_whole]
  rfl

/-- The task from what the launch hands it to what it hands back. -/
theorem tile_body (hF : (K (F := F)).Facts) (O : CellTallies nD τ sig (HIx 1)) (W : Waits sig (HIx 1)) (hO : ∀ g, O g none = 0) :
    iprop(levAts (K (F := F)).L (K (F := F)).lev ∗ emp ∗ pre m d (rowL L)
        ∗ scopedBufs (VT d L) ∗ scopedSems0 (VT d L) ∗ owes (VT d L) O W)
      ⊢ wp frame (wpE (defs₀ (F := F)) 𝒱₀ (VT d L) none) Set.univ
          (cc0__argmax_kernel L xV (Memref.isWhole_whole _) oV (Memref.isWhole_whole _) cV (Memref.isWhole_whole _)
            sA (Memref.isWhole_whole _) sB (Memref.isWhole_whole _) sC (Memref.isWhole_whole _) sV (Memref.isWhole_whole _) sI (Memref.isWhole_whole _)
            cc0_scratch5 cc0_scratch6 cc0_scratch7 cc0_scoped0 cc0_scoped1)
          fun _ => iprop(post m d (rowL L) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d ((L 0).castLE hcore0) ((L 1).castLE hsub0),
    SparseCore.Cfg.scopedSems0_V (Val := Elt F) d ((L 0).castLE hcore0) ((L 1).castLE hsub0), ownSems0_V, ownBufs_V]
  unfold pre post piece
  iintro ⟨#Hlv, -, ⟨Hx, Ho, Hc⟩, ⟨⟨⟨%gA, HA⟩, ⟨%gB, HB⟩, ⟨%gC, HC⟩, ⟨%gV, HV⟩, ⟨%gI, HI⟩⟩, Hbufs⟩, ⟨Hcells, Hsems⟩, HO⟩
  ihave Hmw := (show levAts (K (F := F)).L (K (F := F)).lev ⊢ Transfers.MayWaits (VT d L) (default : HIx 1) O from
    (K (F := F)).mayWaits_none (thr := VT d L) hO) $$ Hlv
  ihave Ho' := (Entails.of_eq (pts_oRow (F := F) d L _).symm) $$ Ho
  ihave Hc' := (Entails.of_eq (pts_cRow (F := F) d L _).symm) $$ Hc
  ihave Hx' := (threeTokens d (Transfers.shareTok fullShare 32 (rowL L)) (tab m d)).1 $$ Hx
  icases Hx' with ⟨Hxr, Hx0, Hx1, Hx2⟩
  iapply (wp_wand_r Idealize.ShloMosaic.frame (wpE (defs₀ (F := F)) 𝒱₀ (VT d L) none) Set.univ)
  isplitl [Hx0 Hx1 Hx2 Ho' Hc' HA HB HC HV HI Hcells HO]
  · iapply (tile_run d L O W (Transfers.shareTok fullShare 32 (rowL L)) (tab m d) (m (oLoc d)) (m (cLoc d)) gA gB gC gV gI)
    isplitr; · iexact Hmw
    isplitl [Hx0]; · iexact Hx0
    isplitl [Hx1]; · iexact Hx1
    isplitl [Hx2]; · iexact Hx2
    isplitl [Ho']; · iexact Ho'
    isplitl [Hc']; · iexact Hc'
    isplitl [HA]; · iexact HA
    isplitl [HB]; · iexact HB
    isplitl [HC]; · iexact HC
    isplitl [HV]; · iexact HV
    isplitl [HI]; · iexact HI
    isplitl [Hcells]; · iexact Hcells
    iexact HO
  unfold settled
  iintro %_ ⟨Hx0, Hx1, Hx2, Ho', Hc', HA, HB, HC, HV, HI, Hcells, ⟨%W', %hW', HO⟩⟩
  ihave Hx := (threeTokens d (Transfers.shareTok fullShare 32 (rowL L)) (tab m d)).2 $$ [Hxr Hx0 Hx1 Hx2]
  · isplitl [Hxr]; · iexact Hxr
    isplitl [Hx0]; · iexact Hx0
    isplitl [Hx1]; · iexact Hx1
    iexact Hx2
  isplitl [Hx Ho' Hc']
  · isplitl [Hx]; · iexact Hx
    isplitl [Ho']; · iapply (Entails.of_eq (pts_oRow (F := F) d L _)); iexact Ho'
    iapply (Entails.of_eq (pts_cRow (F := F) d L _)); iexact Hc'
  isplitl [HA HB HC HV HI Hbufs]
  · isplitl [HA HB HC HV HI]
    · isplitl [HA]; · iexact HA
      isplitl [HB]; · iexact HB
      isplitl [HC]; · iexact HC
      isplitl [HV]; · iexact HV
      iexact HI
    iexact Hbufs
  isplitl [Hcells Hsems]
  · isplitl [Hcells]; · iexact Hcells
    iexact Hsems
  iexists W'
  isplitr
  · ipureintro; exact fun p hp => (hW' p hp).imp_right .inl
  · iexact HO

/-- The grid coordinates of tile `i` on core `c`. -/
def coords (c : Fin (grid0.bound 0)) (i : Fin (grid0.bound 1)) : grid0.Coords :=
  fun | 0 => c | 1 => i | ⟨_ + 2, h⟩ => absurd h (Nat.not_lt.2 (Nat.le_add_left _ _))

theorem defs₀_vector (c : Fin τ.nSC) (i : Fin τ.nSub) :
    defs₀ (F := F) (.scVector c i) 0 ()
      = SparseCore.onTile hcore0 hsub0 (fun c i => cc0__argmax_kernel (coords c i) xV (Memref.isWhole_whole _) oV (Memref.isWhole_whole _) cV (Memref.isWhole_whole _)
            sA (Memref.isWhole_whole _) sB (Memref.isWhole_whole _) sC (Memref.isWhole_whole _) sV (Memref.isWhole_whole _) sI (Memref.isWhole_whole _)
            cc0_scratch5 cc0_scratch6 cc0_scratch7 cc0_scoped0 cc0_scoped1) ⟨⟩ c i := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coords ⟨_, hci.1⟩ ⟨_, hci.2⟩) hF O W hO

end Tile

/-- A core's sixteen pieces are its tiles' pieces, before and after. -/
theorem vecSplit : (K (F := F)).VecSplit' (P m) 0 := by
  intro d c
  show bigSep Finset.univ (fun i : Fin ((K (F := F)).nSub 0) => pre m d (tileRow (c, i))) ⊢ |={Set.univ}=> iprop(
      (bigSep Finset.univ fun i : Fin ((K (F := F)).nSub 0) => pre m d (tileRow (c, i)))
      ∗ ((bigSep Finset.univ fun i : Fin ((K (F := F)).nSub 0) => post m d (tileRow (c, i)))
          -∗ bigSep Finset.univ fun i : Fin ((K (F := F)).nSub 0) => post m d (tileRow (c, i))))
  iintro H; imodintro
  isplitl [H]; · iexact H
  iintro H; iexact H

/-! ## The pieces are the call's arrays -/

theorem rows_disjoint : ∀ i ∈ (Finset.univ : Finset (Fin 32)), ∀ j ∈ (Finset.univ : Finset (Fin 32)), i ≠ j → Disjoint (rowSet i) (rowSet j) :=
  fun _ _ _ _ h => Rect.part_disjoint hdiv h

/-- The three arrays whole are the two cores' pieces and a rest of the table's share. -/
theorem pieces (d : Dev nD) (X : Buf (Elt F) (xLoc d)) (fo : S32x8x16.Idx → F .f32) (fc : S32x8x16.Idx → BitVec 32) :
    (iprop((xLoc d ↦{fullShare} X) ∗ (oLoc d ↦{fullShare} fo) ∗ (cLoc d ↦{fullShare} fc)) : sProp 𝕄)
      ⊣⊢ iprop((xLoc d ↦{Transfers.shareDrop fullShare 32} X)
        ∗ bigSep Finset.univ fun c : Fin 2 => bigSep Finset.univ fun i : Fin 16 => piece d X fo fc (tileRow (c, i))) := by
  have hx : (xLoc d ↦{fullShare} X : sProp 𝕄) ⊣⊢ iprop((xLoc d ↦{Transfers.shareDrop fullShare 32} X)
      ∗ bigSep Finset.univ fun r : Fin 32 => xLoc d ↦{Transfers.shareTok fullShare 32 r} X) :=
    Transfers.pointsTo_toks (ℓ := xLoc d) (S := Finset.univ) (f := X) fullShare 32
  have ho : (oLoc d ↦{fullShare} fo : sProp 𝕄) = bigSep Finset.univ fun r : Fin 32 => oLoc d ↦[rowSet r]{fullShare} fo := by
    rw [← pointsTo_biUnion Finset.univ (ℓ := oLoc d) rowSet rows_disjoint, Rect.biUnion_part hdiv]
  have hc : (cLoc d ↦{fullShare} fc : sProp 𝕄) = bigSep Finset.univ fun r : Fin 32 => cLoc d ↦[rowSet r]{fullShare} fc := by
    rw [← pointsTo_biUnion Finset.univ (ℓ := cLoc d) rowSet rows_disjoint, Rect.biUnion_part hdiv]
  rw [← bigSep_univ_prod (fun p => piece d X fo fc (tileRow p)), ← bigSep_univ_equiv tileRow (piece d X fo fc)]
  unfold piece
  rw [bigSep_sep', bigSep_sep', ← ho, ← hc]
  constructor
  · iintro ⟨Hx, Ho, Hc⟩
    ihave H := hx.1 $$ Hx
    icases H with ⟨Hr, Hx⟩
    isplitl [Hr]; · iexact Hr
    isplitl [Hx]; · iexact Hx
    isplitl [Ho]; · iexact Ho
    iexact Hc
  · iintro ⟨Hr, Hx, Ho, Hc⟩
    isplitl [Hr Hx]
    · iapply hx.2
      isplitl [Hr]; · iexact Hr
      iexact Hx
    isplitl [Ho]; · iexact Ho
    iexact Hc

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1_0 : Ref sig .tc)
abbrev c' : DevRef τ sig := Proc.devRef .tc (main_v1_1 : Ref sig .tc)
abbrev r' : DevRef τ sig := Proc.devRef .tc (main_v10 : Ref sig .tc)

/-- The transposition before the call. -/
abbrev opT : HloOp τ sig (Elt F) :=
  StableHlo.unary main_arg0 main_v0 ((transpose S100000x128 [1, 0] · transposes_S128x100000_S100000x128_1_0) : (⟨S128x100000, .f32⟩ : BufTy).Contents (Elt F) → (⟨S100000x128, .f32⟩ : BufTy).Contents (Elt F))

/-- The joining after it: the maximum over the windows, and the least of the columns that reach it. -/
abbrev opsJoin : List (HloOp τ sig (Elt F)) :=
  [StableHlo.reshape main_v1_0 main_v2 (rfl : (.f32 : EltTy) = .f32) shapeCasts_S32x8x16_S32x128,
   StableHlo.reshape main_v1_1 main_v3 (rfl : (.i32 : EltTy) = .i32) shapeCasts_S32x8x16_S32x128,
   StableHlo.nullary main_cst (constant S_ .f32 0xFF800000#32),
   StableHlo.binary main_v2 main_cst main_v4 ((fun x v => Host.reduce FloatOps.maximumf x v reducesTo_S32x128_S128_d0 h_S_) : (⟨S32x128, .f32⟩ : BufTy).Contents (Elt F) → (⟨S_, .f32⟩ : BufTy).Contents (Elt F) → (⟨S128, .f32⟩ : BufTy).Contents (Elt F)),
   StableHlo.unary main_v4 main_v5 (broadcastInDim S1x128 ![1] bcast_S128_S1x128_1),
   StableHlo.unary main_v5 main_v6 (broadcastInDim S32x128 ![0, 1] bcast_S1x128_S32x128_0_1),
   StableHlo.binary main_v2 main_v6 main_v7 (cmpf .oeq),
   StableHlo.nullary main_c (constantI S_ 32 100000#32),
   StableHlo.TRef.unary (.of main_c : StableHlo.TRef sig ⟨S_, .i32⟩) main_call0.v0 (broadcastInDim S32x128 ![] bcast_S_S32x128),
   StableHlo.TRef.ternary (.of main_v7 : StableHlo.TRef sig ⟨S32x128, .i1⟩) (.of main_v3 : StableHlo.TRef sig ⟨S32x128, .i32⟩) main_call0.v0 main_call0.v1 select,
   StableHlo.nullary main_c_0 (constantI S_ 32 2147483647#32),
   StableHlo.binary main_v8 main_c_0 main_v9 ((fun x v => Host.reduce IntOp.minsi x v reducesTo_S32x128_S128_d0 h_S_) : (⟨S32x128, .i32⟩ : BufTy).Contents (Elt F) → (⟨S_, .i32⟩ : BufTy).Contents (Elt F) → (⟨S128, .i32⟩ : BufTy).Contents (Elt F)),
   StableHlo.reshape main_v9 main_v10 (rfl : (.i32 : EltTy) = .i32) shapeCasts_S128_S128x1]

theorem main_eq (d : Dev nD) : main (F := F) d = StableHlo.seq [opT] >>= fun _ => sc.run d 0 >>= fun _ => StableHlo.seq opsJoin >>= pure := by
  simp only [main, fn_where.body, StableHlo.seq, bind_assoc, pure_bind, bind_pure]

/-- The contents at the launch, at the call, and after it. -/
def V0 (d : Dev nD) : Valuation τ sig (Elt F) := fun b => m (d, b)
def V1 (d : Dev nD) : Valuation τ sig (Elt F) := after [opT] (V0 m d)
def V2 (d : Dev nD) : Valuation τ sig (Elt F) :=
  Function.update (Function.update (V1 m d) o' (outV (tab m d))) c' (outC (tab m d))
/-- The contents at the end. -/
def V3 (d : Dev nD) : Valuation τ sig (Elt F) := after opsJoin (V2 m d)

theorem V1_x (d : Dev nD) : V1 m d x' = tab m d := by unfold V1; after_results; rfl
theorem V1_o (d : Dev nD) : V1 m d o' = m (oLoc d) := by unfold V1; after_results; rfl
theorem V1_c (d : Dev nD) : V1 m d c' = m (cLoc d) := by unfold V1; after_results; rfl
theorem V2_of (d : Dev nD) {b : DevRef τ sig} (ho : b ≠ o') (hc : b ≠ c') : V2 m d b = V1 m d b :=
  (Function.update_of_ne hc _ _).trans (Function.update_of_ne ho _ _)
theorem V2_c (d : Dev nD) : V2 m d c' = outC (tab m d) := Function.update_self _ _ _
theorem V2_o (d : Dev nD) : V2 m d o' = outV (tab m d) :=
  (Function.update_of_ne (show o' ≠ c' by decide) _ _).trans (Function.update_self _ _ _)
theorem V3_a (d : Dev nD) : V3 m d a' = m (aLoc d) := by
  unfold V3
  after_results
  rw [V2_of m d (show a' ≠ o' by decide) (show a' ≠ c' by decide)]
  unfold V1
  after_results
  rfl

/-- The arrays the call works on. -/
abbrev three : Finset (DevRef τ sig) := {x', o', c'}
/-- What the claims read. -/
abbrev kept : Finset (DevRef τ sig) := {a', r'}

theorem held_three (d : Dev nD) (W : Valuation τ sig (Elt F)) :
    (held (T d) three W : sProp 𝕄) = iprop((xLoc d ↦{fullShare} W x') ∗ (oLoc d ↦{fullShare} W o') ∗ (cLoc d ↦{fullShare} W c')) := by
  unfold held three
  rw [SparseCore.bigSep_insert' (by decide), SparseCore.bigSep_insert' (by decide), bigSep_singleton]
theorem held_kept (d : Dev nD) (W : Valuation τ sig (Elt F)) :
    (held (T d) kept W : sProp 𝕄) = iprop((aLoc d ↦{fullShare} W a') ∗ (rLoc d ↦{fullShare} W r')) := by
  unfold held kept
  rw [SparseCore.bigSep_insert' (by decide), bigSep_singleton]

theorem mem_uc (b : Ref sig .tc) : (Proc.devRef .tc b : DevRef τ sig) ∈ Pipeline.ucRefs τ sig :=
  Finset.mem_filter.mpr ⟨devRef_mem_tcRefs b, (show ∀ b : Ref sig .tc, ¬ (Proc.devRef .tc b : DevRef τ sig).isScoped by decide) b⟩
theorem three_sub : three ⊆ Pipeline.ucRefs τ sig := by
  intro b hb
  simp only [three, Finset.mem_insert, Finset.mem_singleton] at hb
  rcases hb with rfl | rfl | rfl <;> exact mem_uc _
theorem kept_sub : kept ⊆ Pipeline.ucRefs τ sig := by
  intro b hb
  simp only [kept, Finset.mem_insert, Finset.mem_singleton] at hb
  rcases hb with rfl | rfl <;> exact mem_uc _

theorem opT_sub : ∀ op ∈ [opT (F := F)], op.bufs ⊆ Pipeline.ucRefs τ sig := fun op h => by
  refine Pipeline.sub_ucRefs op ?_
  rw [List.mem_singleton.mp h]
  exact unary_bufs_sub ..
theorem opsJoin_sub : ∀ op ∈ opsJoin (F := F), op.bufs ⊆ Pipeline.ucRefs τ sig := fun op h => by
  refine Pipeline.sub_ucRefs op (List.forall_iff_forall_mem.mp (?_ : (opsJoin (F := F)).Forall fun op => op.bufs ⊆ tcRefs τ sig) op h)
  simp [opsJoin, TRef.unary, TRef.ternary]

/-- Before the call: the call's arrays, and the rest. -/
theorem held_V1 (d : Dev nD) :
    (held (T d) (Pipeline.ucRefs τ sig) (after [opT] (V0 m d)) : sProp 𝕄)
      = iprop(((xLoc d ↦{fullShare} tab m d) ∗ (oLoc d ↦{fullShare} m (oLoc d)) ∗ (cLoc d ↦{fullShare} m (cLoc d)))
          ∗ held (T d) (Pipeline.ucRefs τ sig \ three) (V1 m d)) := by
  rw [show after [opT] (V0 m d) = V1 m d from rfl, held_sub_split (T d) three_sub, held_three, V1_x, V1_o, V1_c]
/-- After it: the same, the results written. -/
theorem held_V2 (d : Dev nD) :
    (held (T d) (Pipeline.ucRefs τ sig) (V2 m d) : sProp 𝕄)
      = iprop(((xLoc d ↦{fullShare} tab m d) ∗ (oLoc d ↦{fullShare} outV (tab m d)) ∗ (cLoc d ↦{fullShare} outC (tab m d)))
          ∗ held (T d) (Pipeline.ucRefs τ sig \ three) (V1 m d)) := by
  rw [held_sub_split (T d) three_sub, held_three, V2_of m d (show x' ≠ o' by decide) (show x' ≠ c' by decide), V1_x, V2_o, V2_c,
    held_congr (T d) (S := Pipeline.ucRefs τ sig \ three) (V := V2 m d) (V' := V1 m d) fun b hb => ?_]
  have h := (Finset.mem_sdiff.mp hb).2
  simp only [three, Finset.mem_insert, Finset.mem_singleton, not_or] at h
  exact V2_of m d h.2.1 h.2.2

theorem st0_eq (d : Dev nD) : (bigSep Finset.univ fun c : Fin ((K (F := F)).nCore 0) => (P m).st 0 d c)
    = bigSep Finset.univ fun c : Fin 2 => bigSep Finset.univ fun i : Fin 16 => pre m d (tileRow (c, i)) := rfl
theorem dn0_eq (d : Dev nD) : (bigSep Finset.univ fun c : Fin ((K (F := F)).nCore 0) => (P m).dn 0 d c)
    = bigSep Finset.univ fun c : Fin 2 => bigSep Finset.univ fun i : Fin 16 => post m d (tileRow (c, i)) := rfl

/-- What @main leaves the claims: the argument as it was, and the result. -/
abbrev FIN (d : Dev nD) : sProp 𝕄 := iprop((aLoc d ↦{fullShare} m (aLoc d)) ∗ (rLoc d ↦{fullShare} V3 m d r'))

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (Pipeline.ucRefs τ sig) (V0 m d) from
    Pipeline.unscopedBufs_held d (V0 m d), main_eq]
  iintro ⟨#Hctx, Hst, ⟨Hb, Hheld, Hts, -⟩, -⟩
  iapply (wp_seq 𝒱 none Set.univ d (Pipeline.ucRefs τ sig) _ [opT] opT_sub (fun op h => by rw [List.mem_singleton.mp h]; rfl) (V0 m d)) $$ [Hb Hheld]
  · isplitl [Hb] <;> iassumption
  iintro ⟨Hb, Hheld⟩
  ihave Hh := (Entails.of_eq (held_V1 (F := F) m d)) $$ Hheld
  icases Hh with ⟨Hthree, Hrest⟩
  ihave Hp := (pieces d (tab m d) (m (oLoc d)) (m (cLoc d))).1 $$ Hthree
  icases Hp with ⟨Hxr, Hp⟩
  rw [wp_bind]
  iapply ((K (F := F)).wp_run (D (F := F)) 𝒱 (EH := EH) (P := P m) κ d 0) $$ [Hst Hxr Hp Hb Hrest Hts]
  isplitr; · iexact Hctx
  isplitl [Hst]; · iexact Hst
  isplitl [Hp]
  · rw [st0_eq]; iexact Hp
  iintro ⟨Hst, Hdn⟩
  ihave Hp := (Entails.of_eq (dn0_eq m d)) $$ Hdn
  ihave Hthree := (pieces d (tab m d) (outV (tab m d)) (outC (tab m d))).2 $$ [Hxr Hp]
  · isplitl [Hxr]; · iexact Hxr
    iexact Hp
  ihave Hheld := (Entails.of_eq (held_V2 (F := F) m d).symm) $$ [Hthree Hrest]
  · isplitl [Hthree]; · iexact Hthree
    iexact Hrest
  iapply (wp_seq 𝒱 none Set.univ d (Pipeline.ucRefs τ sig) _ opsJoin opsJoin_sub (List.forall_iff_forall_mem.mp (forall_fresh_of_map (ops := opsJoin) rfl)) (V2 m d)) $$ [Hb Hheld]
  · isplitl [Hb] <;> iassumption
  iintro ⟨Hb, Hheld⟩
  ihave Hh := (Entails.of_eq (held_sub_split (T d) kept_sub (after opsJoin (V2 m d)))) $$ Hheld
  rw [show after opsJoin (V2 m d) = V3 m d from rfl]
  rw [held_kept, V3_a]
  icases Hh with ⟨Hk, -⟩
  rw [wp_pure]
  imodintro
  isplitl [Hst]; · iexact Hst
  isplitl [Hk]; · iexact Hk
  isplitl [Hb] <;> iassumption

/-- What the claims read of device `d`'s final state. -/
def fq (d : Dev nD) (s' : Phys nD τ sig (Elt F)) : Prop := s'.mem.mem (aLoc d) = m (aLoc d) ∧ s'.mem.mem (rLoc d) = V3 m d r'

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := V3 m d r')) $$ [HSI Hr]
  · isplitl [HSI] <;> iassumption
  icases H with %hr
  ipureintro; exact ⟨funext fun i => ha i (Finset.mem_univ i), funext fun i => hr i (Finset.mem_univ i)⟩

/-! ## The program's run -/

def QC : PUnit × MemSt nD τ sig (Elt F) → Prop := fun r =>
  (∀ c : Dev nD, r.2.mem (aLoc c) = m (aLoc c) ∧ r.2.mem (rLoc c) = V3 m c r') ∧ r.2.sem = fun _ => 0

/-- Every run ends, the argument as it was, the result the joined answer, every counter back at zero. -/
theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.Argmax.lean ====
/-
  The place of a row's largest number, said four ways, over any linear order.

  `FirstMax f N k`: of the places below `N`, place `k` is the first that holds the largest number of `f`. The stable sort,
  largest first, puts that place in front. A window of the row that is searched from the left, keeping a number only when it
  is strictly larger than the one kept, ends with `Kept`. And of windows that together cover the row, the smallest place among
  those whose number is the largest of all is again the first place of the row's largest number.
-/
module

public import Idealize.ShloMosaic.Lib.SortFacts
public import Idealize.ShloMosaic.PureOps.Reduce
public import Mathlib.Data.Finset.Fold

@[expose] public section

namespace Cert.Proof.Argmax

open Idealize.ShloMosaic

section Order

variable {α : Type} [LinearOrder α]

/-- Of the places below `N`, place `k` is the first that holds the largest number of `f`. -/
structure FirstMax (f : ℕ → α) (N k : ℕ) : Prop where
  lt : k < N
  le : ∀ i < N, f i ≤ f k
  first : ∀ i < k, f i < f k

/-- A place that holds the largest number does not come before the first such place. -/
theorem FirstMax.le_of_eq {f : ℕ → α} {N k i : ℕ} (h : FirstMax f N k) (e : f i = f k) : k ≤ i :=
  Nat.le_of_not_lt fun hi => absurd e (ne_of_lt (h.first i hi))

/-! ### The stable sort puts the first place of the largest number in front -/

/-- What stands in front after an insertion: the old front when it sorts before the new element, else the new element. -/
theorem head_insertBefore {ι : Type} (R : ι → ι → Bool) (a b : ι) (l : List ι) :
    (insertBefore R a (b :: l)).head? = some (if R b a then b else a) := by
  unfold insertBefore
  split <;> simp_all

/-- In front of a stably sorted list of ascending places, largest number first, stands the first place of the largest number. -/
theorem head_stableSort {ι : Type} [LinearOrder ι] (g : ι → α) (R : ι → ι → Bool) (hR : ∀ x y, R x y = true ↔ g y < g x) :
    ∀ l : List ι, l.Pairwise (· < ·) → ∀ k, (stableSort R l).head? = some k →
      k ∈ l ∧ (∀ i ∈ l, g i ≤ g k) ∧ ∀ i ∈ l, i < k → g i < g k := by
  intro l
  induction l with
  | nil => intro _ k hk; simp [stableSort] at hk
  | cons a l ih =>
    intro hl k hk
    obtain ⟨ha, hl'⟩ := List.pairwise_cons.mp hl
    unfold stableSort at hk
    cases hs : stableSort R l with
    | nil =>
      have hnil : l = [] := List.eq_nil_of_length_eq_zero (by rw [← length_stableSort R l, hs]; rfl)
      subst hnil
      rw [hs] at hk
      obtain rfl : a = k := by simpa [insertBefore] using hk
      simp
    | cons b t =>
      obtain ⟨hb, hle, hlt⟩ := ih hl' b (by rw [hs]; rfl)
      rw [hs, head_insertBefore] at hk
      by_cases hab : R b a = true
      · obtain rfl : b = k := by simpa [hab] using hk
        have hab' := (hR b a).mp hab
        refine ⟨List.mem_cons_of_mem _ hb, fun i hi => ?_, fun i hi hik => ?_⟩
        · rcases List.mem_cons.mp hi with rfl | hi
          · exact hab'.le
          · exact hle i hi
        · rcases List.mem_cons.mp hi with rfl | hi
          · exact hab'
          · exact hlt i hi hik
      · obtain rfl : a = k := by simpa [hab] using hk
        have hba : g b ≤ g a := not_lt.mp fun h => hab ((hR b a).mpr h)
        refine ⟨List.mem_cons_self, fun i hi => ?_, fun i hi hik => ?_⟩
        · rcases List.mem_cons.mp hi with rfl | hi
          · exact le_refl _
          · exact (hle i hi).trans hba
        · rcases List.mem_cons.mp hi with rfl | hi
          · exact absurd hik (lt_irrefl _)
          · exact absurd (hik.trans (ha i hi)) (lt_irrefl _)

/-- The place the stable sort, largest first, puts in front of `n` places is the first place of the largest number. -/
theorem sortedFrom_first {n : ℕ} (f : ℕ → α) (R : Fin n → Fin n → Bool) (hR : ∀ x y, R x y = true ↔ f y.val < f x.val) (z : Fin n) (hz : z.val = 0) :
    FirstMax f n (sortedFrom R z).val := by
  have hhead : (sortPositions n R).head? = some (sortedFrom R z) := by
    unfold sortedFrom
    rw [List.head?_eq_getElem?, List.get_eq_getElem]
    simp only [Fin.val_cast, hz]
    exact List.getElem?_eq_getElem _
  obtain ⟨-, hle, hlt⟩ := head_stableSort (fun i : Fin n => f i.val) R hR (List.finRange n) (List.pairwise_lt_finRange n) _ hhead
  exact ⟨(sortedFrom R z).isLt, fun i hi => hle ⟨i, hi⟩ (List.mem_finRange _),
    fun i hi => hlt ⟨i, hi.trans (sortedFrom R z).isLt⟩ (List.mem_finRange _) hi⟩

/-! ### A window searched from the left -/

variable [OrderBot α]

/-- What a search of the `n` places from `w` on keeps: a number `a` that none of them exceeds, and a word `b`, which names the
    first of them holding `a`; or the search never met a number above the least one, and kept that one and the word zero. -/
def Kept (f : ℕ → α) (w n : ℕ) (a : α) (b : BitVec 32) : Prop :=
  (∀ i < n, f (w + i) ≤ a) ∧ ((a = ⊥ ∧ b = 0#32) ∨ ∃ i < n, b = BitVec.ofNat 32 (w + i) ∧ f (w + i) = a ∧ ∀ j < i, f (w + j) < a)

/-- Before the search the least number and the word zero are kept. -/
theorem Kept.zero (f : ℕ → α) (w : ℕ) : Kept f w 0 ⊥ 0#32 :=
  ⟨fun i hi => absurd hi (Nat.not_lt_zero i), Or.inl ⟨rfl, rfl⟩⟩

/-- One more place searched. -/
theorem Kept.succ {f : ℕ → α} {w n : ℕ} {a : α} {b : BitVec 32} (h : Kept f w n a b) :
    Kept f w (n + 1) (if a < f (w + n) then f (w + n) else a) (if a < f (w + n) then BitVec.ofNat 32 (w + n) else b) := by
  obtain ⟨hle, hb⟩ := h
  by_cases hn : a < f (w + n)
  · rw [if_pos hn, if_pos hn]
    refine ⟨fun i hi => ?_, Or.inr ⟨n, Nat.lt_succ_self n, rfl, rfl, fun j hj => (hle j hj).trans_lt hn⟩⟩
    rcases Nat.lt_succ_iff_lt_or_eq.mp hi with hi | rfl
    · exact (hle i hi).trans hn.le
    · exact le_refl _
  · rw [if_neg hn, if_neg hn]
    refine ⟨fun i hi => ?_, hb.imp id fun ⟨i, hi, hbi⟩ => ⟨i, Nat.lt_succ_of_lt hi, hbi⟩⟩
    rcases Nat.lt_succ_iff_lt_or_eq.mp hi with hi | rfl
    · exact hle i hi
    · exact not_lt.mp hn

/-! ### Windows that cover the row -/

section Cover

variable {f : ℕ → α} {N k n R : ℕ} {w : Fin R → ℕ} {a : Fin R → α} {b : Fin R → BitVec 32}

/-- The largest of the numbers kept over windows that cover the row is the row's largest number. -/
theorem max_eq (hk : FirstMax f N k) (hw : ∀ r, w r + n ≤ N) (hcov : ∃ r, w r ≤ k ∧ k < w r + n) (h : ∀ r, Kept f (w r) n (a r) (b r)) :
    (Finset.univ : Finset (Fin R)).fold max ⊥ a = f k := by
  apply le_antisymm
  · rw [Finset.fold_max_le]
    refine ⟨bot_le, fun r _ => ?_⟩
    rcases (h r).2 with ⟨ha, -⟩ | ⟨i, hi, -, hf, -⟩
    · rw [ha]; exact bot_le
    · rw [← hf]
      exact hk.le _ (by have := hw r; omega)
  · rw [Finset.le_fold_max]
    obtain ⟨r, hr, hr'⟩ := hcov
    refine Or.inr ⟨r, Finset.mem_univ r, ?_⟩
    have := (h r).1 (k - w r) (by omega)
    rwa [Nat.add_sub_cancel' hr] at this

/-- The signed order of words, under which `minsi` is the minimum. -/
theorem le_minsi {c x y : BitVec 32} : c.toInt ≤ (IntOp.minsi x y).toInt ↔ c.toInt ≤ x.toInt ∧ c.toInt ≤ y.toInt := by
  unfold IntOp.minsi
  simp only [BitVec.slt, decide_eq_true_eq]
  split <;> omega

/-- A small number, as a word read signed, is that number. -/
theorem toInt_ofNat {i : ℕ} (hi : i < 2 ^ 31) : (BitVec.ofNat 32 i).toInt = i := by
  rw [BitVec.toInt_ofNat', Int.bmod_eq_of_le] <;> omega

/-- The smallest of the words kept over the windows whose number is the row's largest — every other window giving a number past
    the row — is the first place of the row's largest number. -/
theorem min_eq (hk : FirstMax f N k) (hN : N < 2 ^ 31) (hw : ∀ r, w r + n ≤ N) (hcov : ∃ r, w r ≤ k ∧ k < w r + n)
    (h : ∀ r, Kept f (w r) n (a r) (b r)) {c : Fin R → BitVec 32} (hc : ∀ r, c r = if a r = f k then b r else BitVec.ofNat 32 N) :
    (Finset.univ : Finset (Fin R)).fold IntOp.minsi 2147483647#32 c = BitVec.ofNat 32 k := by
  have hkN := hk.lt
  have hbot : f k = ⊥ → k = 0 := fun e => Nat.eq_zero_of_not_pos fun hp => not_lt_bot (e ▸ hk.first 0 hp)
  have hfold := fun x : BitVec 32 => Finset.fold_op_rel_iff_and (op := IntOp.minsi (w := 32)) (r := fun x y => x.toInt ≤ y.toInt)
    (fun {_ _ _} => le_minsi) (c := x) (b := 2147483647#32) (f := c) (s := (Finset.univ : Finset (Fin R)))
  apply BitVec.eq_of_toInt_eq
  apply le_antisymm
  · obtain ⟨r, hr, hr'⟩ := hcov
    have hcr : c r = BitVec.ofNat 32 k := by
      have hup := (h r).1 (k - w r) (by omega)
      rw [Nat.add_sub_cancel' hr] at hup
      have har : a r = f k := by
        refine le_antisymm ?_ hup
        rcases (h r).2 with ⟨ha, -⟩ | ⟨i, hi, -, hf, -⟩
        · rw [ha]; exact bot_le
        · rw [← hf]; exact hk.le _ (by have := hw r; omega)
      rw [hc r, if_pos har]
      rcases (h r).2 with ⟨ha, hb⟩ | ⟨i, hi, hb, hf, hlt⟩
      · rw [hb, hbot (har.symm.trans ha)]
      · have h1 : k ≤ w r + i := hk.le_of_eq (hf.trans har)
        have h2 : ¬ k - w r < i := fun hlt' => by
          have := hlt (k - w r) hlt'
          rw [Nat.add_sub_cancel' hr, har] at this
          exact lt_irrefl _ this
        rw [hb, show w r + i = k by omega]
    rw [← hcr]
    exact ((hfold _).mp (le_refl _)).2 r (Finset.mem_univ r)
  · refine (hfold _).mpr ⟨?_, fun r _ => ?_⟩
    · rw [toInt_ofNat (by omega)]
      have : (2147483647#32 : BitVec 32).toInt = 2147483647 := by decide
      omega
    · rw [hc r, toInt_ofNat (by omega : k < 2 ^ 31)]
      by_cases har : a r = f k
      · rw [if_pos har]
        rcases (h r).2 with ⟨ha, hb⟩ | ⟨i, hi, hb, hf, -⟩
        · rw [hb, hbot (har.symm.trans ha)]; decide
        · have h1 : k ≤ w r + i := hk.le_of_eq (hf.trans har)
          have := hw r
          rw [hb, toInt_ofNat (by omega)]
          omega
      · rw [if_neg har, toInt_ofNat hN]
        omega

end Cover

end Order

end Cert.Proof.Argmax
-- ==== Proof.Value.lean ====
/-
  What the programs compute, over the extended reals: for each row of the argument the first place of its largest number.

  The tiles leave, for each of 32 overlapping windows of a row, what a search of that window keeps; the host takes the
  largest number over the windows and, of the windows that have it, the smallest place. The reference sorts the row stably,
  largest number first, and takes the place in front.
-/
module

public import proofs.«01_k».proof.Proof.LaunchIdeal
public import proofs.«01_k».proof.Proof.Argmax
public import Idealize.ShloMosaic.PureOps.Ideal.Laws
public import Idealize.ShloMosaic.Lib.Pointwise.Select

@[expose] public section

noncomputable section

namespace Cert.Proof.Value

open Idealize.ShloMosaic hiding ix1 ix2 ix3
open Idealize.ShloMosaic.ValueIdx Idealize.ShloMosaic.StableHlo Idealize.SL.Sem Cert.Proof.Scan Cert.Proof.Argmax

/-! ### The search of a window -/

/-- The numbers of row `p` of the argument, one place after the other (from the start again past the row's end). -/
def row (x : (⟨2, ![128, 100000]⟩ : Shape).Idx → Ideal .f32) (p : Fin 128) (i : ℕ) : EReal := x (ix2 p ⟨i % 100000, Nat.mod_lt _ (by omega)⟩)

theorem bottom : (FloatOps.ofBits (F := Ideal) .f32 0xFF800000#32 : EReal) = ⊥ := by
  show Ideal.ofBits .f32 0xFF800000#32 = ⊥
  simp [Ideal.ofBits, Ideal.ieee]

/-- A select on "strictly larger", at a lane. -/
theorem select_beats {α : Type} (x a : FVec Ideal L16 .f32) (y b : L16.Idx → α) (l : L16.Idx) :
    select (beats x a) y b l = if @LT.lt EReal _ (a l) (x l) then y l else b l := by
  show (if Ideal.cmp .ogt (x l) (a l) = 1 then y l else b l) = _
  by_cases h : @LT.lt EReal _ (a l) (x l)
  · rw [if_pos ((Ideal.cmp_ogt_eq_one _ _).mpr h), if_pos h]
  · rw [if_neg (mt (Ideal.cmp_ogt_eq_one _ _).mp h), if_neg h]

/-- What is kept at a lane after `n` columns is what a search of `n` places of that lane's row keeps. -/
theorem kept_lane {X : ℕ → Fin 128 → Ideal .f32} {w : ℕ} {f : ℕ → EReal} {u : Fin 8} {l : L16.Idx} (hX : ∀ n, X n (lane u l) = f (w + n)) (n : ℕ) :
    Kept f w n (accV X n u l) (accC X w n u l) := by
  induction n with
  | zero =>
    have h : accV X 0 u l = (⊥ : EReal) := bottom
    rw [h]
    exact Kept.zero f w
  | succ n ih =>
    have h := ih.succ
    rw [← hX n] at h
    unfold accV accC
    rw [select_beats, select_beats]
    exact h

/-! ### The host's two reductions -/

/-- A reduction of a matrix down its columns, at a column: the fold over the rows. -/
theorem reduce_col {α : Type} {a b : ℕ} (op : α → α → α) [Std.Commutative op] [Std.Associative op] (x : (⟨2, ![a, b]⟩ : Shape).Idx → α)
    (init : (⟨0, ![]⟩ : Shape).Idx → α) (h : (⟨2, ![a, b]⟩ : Shape).ReducesTo [0] ⟨1, ![b]⟩) (hu : 0 < (⟨0, ![]⟩ : Shape).numel) (p : Fin b) :
    Host.reduce op x init h hu (ix1 p) = (Finset.univ : Finset (Fin a)).fold op (init (Shape.Idx.first hu)) fun r => x (ix2 r p) := by
  have h' : (⟨2, ![a, b]⟩ : Shape).Reduces [0] ⟨1, ![b]⟩ := ⟨h.1, Nat.one_pos, h.2⟩
  rw [Host.reduce_eq_fold_single op x init h h' hu]
  refine congrArg (fun g => Finset.fold op _ g (Finset.univ : Finset (Fin a))) (funext fun r => congrArg x (funext fun c => ?_))
  match c with
  | ⟨0, _⟩ => rfl
  | ⟨1, _⟩ => rfl

/-- The vector a place lies in, and its lane there. -/
def vec (p : Fin 128) : Fin 8 := ⟨p.val / 16, by have := p.isLt; omega⟩
def pos (p : Fin 128) : Fin 16 := ⟨p.val % 16, Nat.mod_lt _ (by omega)⟩

theorem lane_vec (p : Fin 128) : lane (vec p) (ix1 (pos p)) = p := Fin.ext (Nat.div_add_mod p.val 16)

/-- An output of the tiles with its eight rows of sixteen laid end to end. -/
theorem flat_apply {α : Type} (o : (⟨3, ![32, 8, 16]⟩ : Shape).Idx → α) (h : (⟨3, ![32, 8, 16]⟩ : Shape).ShapeCasts ⟨2, ![32, 128]⟩) (r : Fin 32) (p : Fin 128) :
    shapeCast ⟨2, ![32, 128]⟩ o h (ix2 r p) = o (ix3 r (vec p) (pos p)) := by
  refine shapeCast_apply o h _ _ ?_
  rw [Shape.rowMajor_val_three, Shape.rowMajor_val_two]
  show (r.val * 8 + p.val / 16) * 16 + p.val % 16 = r.val * 128 + p.val
  omega

section Host

open Cert.KernelIdeal Cert.KernelIdeal.Gen Cert.Proof.KernelIdeal

variable {F : FTy → Type} [FloatOps F] (m : (ℓ : Loc nD τ sig) → Buf (Elt F) ℓ)

/-- The largest number each place has over the windows. -/
def top (o : S32x8x16.Idx → F .f32) : S128.Idx → F .f32 :=
  Host.reduce FloatOps.maximumf (shapeCast S32x128 o shapeCasts_S32x8x16_S32x128) (constant S_ .f32 0xFF800000#32) reducesTo_S32x128_S128_d0 h_S_

/-- For each window and place the column number kept there, or a number past the row where the window's number is not the
    largest. -/
def cand (o : S32x8x16.Idx → F .f32) (c : S32x8x16.Idx → BitVec 32) : S32x128.Idx → BitVec 32 :=
  select (cmpf .oeq (shapeCast S32x128 o shapeCasts_S32x8x16_S32x128)
      (broadcastInDim S32x128 ![0, 1] bcast_S1x128_S32x128_0_1 (broadcastInDim S1x128 ![1] bcast_S128_S1x128_1 (top o))))
    (shapeCast S32x128 c shapeCasts_S32x8x16_S32x128) (broadcastInDim S32x128 ![] bcast_S_S32x128 (constantI S_ 32 100000#32))

/-- What the host makes of the tiles' two outputs. -/
def joined (o : S32x8x16.Idx → F .f32) (c : S32x8x16.Idx → BitVec 32) : S128x1.Idx → BitVec 32 :=
  shapeCast S128x1 (Host.reduce IntOp.minsi (cand o c) (constantI S_ 32 2147483647#32) reducesTo_S32x128_S128_d0 h_S_) shapeCasts_S128_S128x1

/-- The result the launch ends with. -/
theorem V3_r (d : Dev nD) : V3 m d r' = joined (outV (tab m d)) (outC (tab m d)) := by
  unfold V3
  after_results
  rw [V2_c, V2_o]
  rfl

theorem top_apply (o : S32x8x16.Idx → Ideal .f32) (p : Fin 128) :
    top o (ix1 p) = (Finset.univ : Finset (Fin 32)).fold max (⊥ : EReal) fun r => o (ix3 r (vec p) (pos p)) := by
  refine (reduce_col (a := 32) (b := 128) (FloatOps.maximumf : Ideal .f32 → Ideal .f32 → Ideal .f32) _ _ reducesTo_S32x128_S128_d0 h_S_ p).trans ?_
  simp only [flat_apply]
  exact congrArg (fun z => Finset.fold max z (fun r => o (ix3 r (vec p) (pos p)) : Fin 32 → EReal) (Finset.univ : Finset (Fin 32))) bottom

theorem cand_apply (o : S32x8x16.Idx → Ideal .f32) (c : S32x8x16.Idx → BitVec 32) (r : Fin 32) (p : Fin 128) :
    cand o c (ix2 r p) = if o (ix3 r (vec p) (pos p)) = top o (ix1 p) then c (ix3 r (vec p) (pos p)) else BitVec.ofNat 32 100000 := by
  have hb : broadcastInDim S32x128 ![0, 1] bcast_S1x128_S32x128_0_1 (broadcastInDim S1x128 ![1] bcast_S128_S1x128_1 (top o)) (ix2 r p) = top o (ix1 p) :=
    (broadcastInDim_apply _ _ _ (ix2 r p) (ix2 (0 : Fin 1) p) fun a => match a with | ⟨0, _⟩ => rfl | ⟨1, _⟩ => rfl).trans
      (broadcastInDim_apply _ _ _ (ix2 (0 : Fin 1) p) (ix1 p) fun a => match a with | ⟨0, _⟩ => rfl)
  show (if Ideal.cmp .oeq (shapeCast S32x128 o shapeCasts_S32x8x16_S32x128 (ix2 r p)) (broadcastInDim S32x128 ![0, 1] bcast_S1x128_S32x128_0_1
    (broadcastInDim S1x128 ![1] bcast_S128_S1x128_1 (top o)) (ix2 r p)) = 1 then shapeCast S32x128 c shapeCasts_S32x8x16_S32x128 (ix2 r p)
    else BitVec.ofNat 32 100000) = _
  rw [hb, flat_apply, flat_apply]
  by_cases h : o (ix3 r (vec p) (pos p)) = top o (ix1 p)
  · rw [if_pos ((Ideal.cmp_oeq_eq_one _ _).mpr h), if_pos h]
  · rw [if_neg (mt (Ideal.cmp_oeq_eq_one _ _).mp h), if_neg h]

theorem joined_apply (o : S32x8x16.Idx → Ideal .f32) (c : S32x8x16.Idx → BitVec 32) (p : Fin 128) :
    joined o c (ix2 p (0 : Fin 1)) = (Finset.univ : Finset (Fin 32)).fold IntOp.minsi 2147483647#32 fun r => cand o c (ix2 r p) := by
  refine (shapeCast_apply _ shapeCasts_S128_S128x1 (ix2 p (0 : Fin 1)) (ix1 p) ?_).trans
    (reduce_col (a := 32) (b := 128) IntOp.minsi (cand o c) (constantI S_ 32 2147483647#32) reducesTo_S32x128_S128_d0 h_S_ p)
  rw [Shape.rowMajor_val_one, Shape.rowMajor_val_two]
  show p.val = p.val * 1 + 0
  omega

/-- The kernel's result, at a row whose first place of the largest number is `k`. -/
theorem kernel_value {x : (⟨2, ![128, 100000]⟩ : Shape).Idx → Ideal .f32} {T : S100000x128.Idx → Ideal .f32}
    (hT : ∀ (n : Fin 100000) (p : Fin 128), T (ix2 n p) = x (ix2 p n)) {p : Fin 128} {k : ℕ} (hk : FirstMax (row x p) 100000 k) :
    joined (outV T) (outC T) (ix2 p (0 : Fin 1)) = BitVec.ofNat 32 k := by
  have hkept : ∀ r : Fin 32, Kept (row x p) (3120 * r.val) 3280 (outV T (ix3 r (vec p) (pos p))) (outC T (ix3 r (vec p) (pos p))) := fun r =>
    kept_lane (X := colsAt T (3120 * r.val)) (fun n => by rw [lane_vec]; exact hT _ _) 3280
  have hw : ∀ r : Fin 32, 3120 * r.val + 3280 ≤ 100000 := fun r => by have := r.isLt; omega
  have hcov : ∃ r : Fin 32, 3120 * r.val ≤ k ∧ k < 3120 * r.val + 3280 := by
    have := hk.lt
    exact ⟨⟨min (k / 3120) 31, by omega⟩, by show 3120 * min (k / 3120) 31 ≤ k; omega, by show k < 3120 * min (k / 3120) 31 + 3280; omega⟩
  rw [joined_apply]
  refine min_eq hk (by decide) hw hcov hkept fun r => ?_
  rw [cand_apply, top_apply, max_eq hk hw hcov hkept]

end Host

/-! ### The reference -/

/-- The reference's result at a row is the first place of the row's largest number. -/
theorem reference_value (x : (⟨2, ![128, 100000]⟩ : Shape).Idx → Ideal .f32) (h : (⟨2, ![128, 100000]⟩ : Shape).Slices (fun _ => 0) ⟨2, ![128, 1]⟩) (p : Fin 128) :
    ∃ k, FirstMax (row x p) 100000 k ∧
      (Host.topK ⟨2, ![128, 1]⟩ 1 (FloatOps.cmpfTotal (F := Ideal) (φ := .f32) .gt) x h).2 (ix2 p (0 : Fin 1)) = BitVec.ofNat 32 k := by
  refine ⟨_, sortedFrom_first (row x p) (fun k k' : Fin 100000 => FloatOps.cmpfTotal (F := Ideal) (φ := .f32) .gt (x (ix2 p k)) (x (ix2 p k')) == 1#1)
    (fun a b => ?_) ⟨0, by omega⟩ rfl, ?_⟩
  · have hr : ∀ i : Fin 100000, row x p i.val = x (ix2 p i) := fun i => congrArg (fun n => x (ix2 p n)) (Fin.ext (Nat.mod_eq_of_lt i.isLt))
    rw [hr, hr, beq_iff_eq]
    exact Ideal.cmp_ogt_eq_one _ _
  · have along : ∀ k : Fin 100000, Shape.Idx.along (s := ⟨2, ![128, 100000]⟩) (ix2 p ⟨0, by omega⟩) 1 k = ix2 p k := fun k => by
      funext a
      match a with
      | ⟨0, _⟩ => rfl
      | ⟨1, _⟩ => rfl
    unfold Host.topK Host.sort2 extractStridedSlice
    simp only [show (1 : ℕ) < (⟨2, ![128, 100000]⟩ : Shape).rank from Nat.lt_succ_self 1, dif_pos]
    have read : ∀ j : (⟨2, ![128, 100000]⟩ : Shape).Idx, j = ix2 p ⟨0, by omega⟩ →
        iotaInDim ⟨2, ![128, 100000]⟩ 32 1 (j.along 1 (sortedFrom (fun k k' =>
          FloatOps.cmpfTotal (F := Ideal) (φ := .f32) .gt (x (j.along 1 k)) (x (j.along 1 k')) == 1#1) (j 1)))
        = BitVec.ofNat 32 (sortedFrom (fun k k' : Fin 100000 =>
          FloatOps.cmpfTotal (F := Ideal) (φ := .f32) .gt (x (ix2 p k)) (x (ix2 p k')) == 1#1) ⟨0, by omega⟩).val := by
      rintro j rfl
      have e : (fun k k' : Fin 100000 => FloatOps.cmpfTotal (F := Ideal) (φ := .f32) .gt (x (Shape.Idx.along (s := ⟨2, ![128, 100000]⟩) (ix2 p ⟨0, by omega⟩) 1 k))
          (x (Shape.Idx.along (s := ⟨2, ![128, 100000]⟩) (ix2 p ⟨0, by omega⟩) 1 k')) == 1#1)
        = fun k k' => FloatOps.cmpfTotal (F := Ideal) (φ := .f32) .gt (x (ix2 p k)) (x (ix2 p k')) == 1#1 := by
        funext k k'
        rw [along, along]
      exact (congrArg (fun j => iotaInDim ⟨2, ![128, 100000]⟩ 32 1 j) (along _)).trans
        (congrArg (fun R => BitVec.ofNat 32 (sortedFrom R (⟨0, by omega⟩ : Fin 100000)).val) e)
    refine read _ (funext fun a => ?_)
    match a with
    | ⟨0, _⟩ => exact Fin.ext (Nat.zero_add _)
    | ⟨1, _⟩ => rfl

end Cert.Proof.Value
-- ==== Proof.lean ====
/-
  The proof of the claim: the kernel and its ideal form run to the end leaving their argument and every counter as they were,
  and over the extended reals the kernel returns, for every row, the place the reference returns.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.LaunchIdeal
public import proofs.«01_k».proof.Proof.Value
public import Idealize.ShloMosaic.Lib.Claim

@[expose] public section

noncomputable section

namespace Cert.Proof

open Idealize.ShloMosaic Idealize.SL.Sem

/-- The kernel runs, and leaves its argument and the counters as they were. -/
theorem frame_kernel : quiescent_Kernel := fun m g _ =>
  (θ_run Cert.Kernel.defs _ _).mono (fun _ h => ⟨fun c => (h.1 c).1, h.2⟩) (Kernel.run_main (F := Bits) m g)

/-- So does its ideal form. -/
theorem frame_kernelIdeal : quiescent_KernelIdeal := fun m g _ =>
  (θ_run Cert.KernelIdeal.defs _ _).mono (fun _ h => ⟨fun c => (h.1 c).1, h.2⟩) (KernelIdeal.run_main (F := Ideal) m g)

/-- So does the reference, which has no counter. -/
theorem frame_referenceIdeal : quiescent_ReferenceIdeal := fun m g _ =>
  (θ_run Cert.ReferenceIdeal.defs _ _).mono (fun r h => ⟨fun c => (h c).2, sem_eq_zero_of_no_sems (by decide) r.2⟩)
    (ReferenceIdeal.Value.run (F := Ideal) m g)

/-- A place of a column of 128 is named by its row. -/
theorem row_of (j : Cert.KernelIdeal.S128x1.Idx) : ∃ p : Fin 128, j = ValueIdx.ix2 p (0 : Fin 1) :=
  ⟨j 0, funext fun a => match a with
    | ⟨0, _⟩ => rfl
    | ⟨1, _⟩ => Subsingleton.elim (α := Fin 1) _ _⟩

/-- From arguments that agree, the kernel's result is the reference's. -/
theorem results_eq (m : (ℓ : Loc Cert.KernelIdeal.nD Cert.KernelIdeal.τ Cert.KernelIdeal.sig) → Buf (Elt Ideal) ℓ) (c : Dev Cert.KernelIdeal.nD) :
    KernelIdeal.V3 m c KernelIdeal.r' = (Host.topK Cert.KernelIdeal.S128x1 1 (FloatOps.cmpfTotal (F := Ideal) (φ := .f32) .gt)
      (show Cert.KernelIdeal.S128x100000.Idx → Ideal .f32 from m (KernelIdeal.aLoc c)) Cert.ReferenceIdeal.Gen.facts.sliceFits_S128x100000_S128x1).2 := by
  rw [Value.V3_r]
  funext j
  obtain ⟨p, rfl⟩ := row_of j
  obtain ⟨k, hk, hr⟩ := Value.reference_value (m (KernelIdeal.aLoc c)) Cert.ReferenceIdeal.Gen.facts.sliceFits_S128x100000_S128x1 p
  refine Eq.trans ?_ hr.symm
  exact Value.kernel_value (fun n p => ValueIdx.transpose_ix2_apply _ _ _ _) hk

/-- The kernel computes, over the extended reals, what the reference computes. -/
theorem algebraic : algebraic_KernelIdeal_ReferenceIdeal := by
  intro m g m' g' _ hagree
  refine ⟨fun c => KernelIdeal.V3 m c KernelIdeal.r', ?_, ?_⟩
  · exact (θ_run Cert.KernelIdeal.defs _ _).mono (fun _ h c => ⟨(h.1 c).2, (h.1 c).1⟩) (KernelIdeal.run_main (F := Ideal) m g)
  · refine (θ_run Cert.ReferenceIdeal.defs _ _).mono (fun _ h c => ⟨(h c).1.trans ?_, (h c).2⟩) (ReferenceIdeal.Value.run (F := Ideal) m' g')
    rw [hagree c]
    exact (results_eq m c).symm

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
